-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v252) = v0 c
          ∧ r.2.mem ((c.tc : Thread Cert.ReferenceIdeal.nD Cert.ReferenceIdeal.τ).loc Cert.ReferenceIdeal.main_v253) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x64x128x128 : Shape := ⟨4, ![8, 64, 128, 128]⟩
abbrev S128x64x3x3 : Shape := ⟨4, ![128, 64, 3, 3]⟩
abbrev S128 : Shape := ⟨1, ![128]⟩
abbrev S128x128x3x3 : Shape := ⟨4, ![128, 128, 3, 3]⟩
abbrev S80x128x1x1 : Shape := ⟨4, ![80, 128, 1, 1]⟩
abbrev S80 : Shape := ⟨1, ![80]⟩
abbrev S64x64x3x3 : Shape := ⟨4, ![64, 64, 3, 3]⟩
abbrev S64 : Shape := ⟨1, ![64]⟩
abbrev S4x64x1x1 : Shape := ⟨4, ![4, 64, 1, 1]⟩
abbrev S4 : Shape := ⟨1, ![4]⟩
abbrev S8x128x128x64 : Shape := ⟨4, ![8, 128, 128, 64]⟩
abbrev S8x16384x64 : Shape := ⟨3, ![8, 16384, 64]⟩
abbrev S3x3x64x128 : Shape := ⟨4, ![3, 3, 64, 128]⟩
abbrev S576x128 : Shape := ⟨2, ![576, 128]⟩
abbrev S3x3x64x64 : Shape := ⟨4, ![3, 3, 64, 64]⟩
abbrev S576x64 : Shape := ⟨2, ![576, 64]⟩
abbrev S576x192 : Shape := ⟨2, ![576, 192]⟩
abbrev S192 : Shape := ⟨1, ![192]⟩
abbrev S1x192 : Shape := ⟨2, ![1, 192]⟩
abbrev S3x3x128x128 : Shape := ⟨4, ![3, 3, 128, 128]⟩
abbrev S1152x128 : Shape := ⟨2, ![1152, 128]⟩
abbrev S80x128 : Shape := ⟨2, ![80, 128]⟩
abbrev S128x80 : Shape := ⟨2, ![128, 80]⟩
abbrev S4x64 : Shape := ⟨2, ![4, 64]⟩
abbrev S64x4 : Shape := ⟨2, ![64, 4]⟩
abbrev S_ : Shape := ⟨0, ![]⟩
abbrev S64x8 : Shape := ⟨2, ![64, 8]⟩
abbrev S1x128 : Shape := ⟨2, ![1, 128]⟩
abbrev S1x80 : Shape := ⟨2, ![1, 80]⟩
abbrev S1x64 : Shape := ⟨2, ![1, 64]⟩
abbrev S8 : Shape := ⟨1, ![8]⟩
abbrev S1x8 : Shape := ⟨2, ![1, 8]⟩
abbrev S8x80x16384 : Shape := ⟨3, ![8, 80, 16384]⟩
abbrev S8x4x16384 : Shape := ⟨3, ![8, 4, 16384]⟩
abbrev S1x80x16384 : Shape := ⟨3, ![1, 80, 16384]⟩
abbrev S1x4x16384 : Shape := ⟨3, ![1, 4, 16384]⟩
abbrev S16640x64 : Shape := ⟨2, ![16640, 64]⟩
abbrev S16640x128 : Shape := ⟨2, ![16640, 128]⟩
abbrev S16384x64 : Shape := ⟨2, ![16384, 64]⟩
abbrev S1x16384x64 : Shape := ⟨3, ![1, 16384, 64]⟩
abbrev S128x64 : Shape := ⟨2, ![128, 64]⟩
abbrev S128x128 : Shape := ⟨2, ![128, 128]⟩
abbrev S1024x64 : Shape := ⟨2, ![1024, 64]⟩
abbrev S1024x576 : Shape := ⟨2, ![1024, 576]⟩
abbrev S1024x192 : Shape := ⟨2, ![1024, 192]⟩
abbrev S1024x128 : Shape := ⟨2, ![1024, 128]⟩
abbrev S1024x1152 : Shape := ⟨2, ![1024, 1152]⟩
abbrev S1024x80 : Shape := ⟨2, ![1024, 80]⟩
abbrev S80x1024 : Shape := ⟨2, ![80, 1024]⟩
abbrev S1x80x1024 : Shape := ⟨3, ![1, 80, 1024]⟩
abbrev S1024x8 : Shape := ⟨2, ![1024, 8]⟩
abbrev S8x1024 : Shape := ⟨2, ![8, 1024]⟩
abbrev S4x1024 : Shape := ⟨2, ![4, 1024]⟩
abbrev S1x4x1024 : Shape := ⟨3, ![1, 4, 1024]⟩

abbrev nBuf : Space → Nat
  | .hbm => 49
  | .vmem => 21
  | .smem => 0
  | _ => 0

abbrev bufTy : (tb : Table) → Fin (tcTables nBuf tb) → BufTy
  | .hbm, ⟨0, _⟩ => ⟨S8x64x128x128, .f32⟩
  | .hbm, ⟨1, _⟩ => ⟨S128x64x3x3, .f32⟩
  | .hbm, ⟨2, _⟩ => ⟨S128, .f32⟩
  | .hbm, ⟨3, _⟩ => ⟨S128x128x3x3, .f32⟩
  | .hbm, ⟨4, _⟩ => ⟨S128, .f32⟩
  | .hbm, ⟨5, _⟩ => ⟨S80x128x1x1, .f32⟩
  | .hbm, ⟨6, _⟩ => ⟨S80, .f32⟩
  | .hbm, ⟨7, _⟩ => ⟨S64x64x3x3, .f32⟩
  | .hbm, ⟨8, _⟩ => ⟨S64, .f32⟩
  | .hbm, ⟨9, _⟩ => ⟨S64x64x3x3, .f32⟩
  | .hbm, ⟨10, _⟩ => ⟨S64, .f32⟩
  | .hbm, ⟨11, _⟩ => ⟨S4x64x1x1, .f32⟩
  | .hbm, ⟨12, _⟩ => ⟨S4, .f32⟩
  | .hbm, ⟨13, _⟩ => ⟨S8x128x128x64, .f32⟩
  | .hbm, ⟨14, _⟩ => ⟨S8x16384x64, .f32⟩
  | .hbm, ⟨15, _⟩ => ⟨S8x16384x64, .bf16⟩
  | .hbm, ⟨16, _⟩ => ⟨S3x3x64x128, .f32⟩
  | .hbm, ⟨17, _⟩ => ⟨S576x128, .f32⟩
  | .hbm, ⟨18, _⟩ => ⟨S576x128, .bf16⟩
  | .hbm, ⟨19, _⟩ => ⟨S3x3x64x64, .f32⟩
  | .hbm, ⟨20, _⟩ => ⟨S576x64, .f32⟩
  | .hbm, ⟨21, _⟩ => ⟨S576x64, .bf16⟩
  | .hbm, ⟨22, _⟩ => ⟨S576x192, .bf16⟩
  | .hbm, ⟨23, _⟩ => ⟨S192, .f32⟩
  | .hbm, ⟨24, _⟩ => ⟨S1x192, .f32⟩
  | .hbm, ⟨25, _⟩ => ⟨S3x3x128x128, .f32⟩
  | .hbm, ⟨26, _⟩ => ⟨S1152x128, .f32⟩
  | .hbm, ⟨27, _⟩ => ⟨S1152x128, .bf16⟩
  | .hbm, ⟨28, _⟩ => ⟨S3x3x64x64, .f32⟩
  | .hbm, ⟨29, _⟩ => ⟨S576x64, .f32⟩
  | .hbm, ⟨30, _⟩ => ⟨S576x64, .bf16⟩
  | .hbm, ⟨31, _⟩ => ⟨S80x128, .f32⟩
  | .hbm, ⟨32, _⟩ => ⟨S128x80, .f32⟩
  | .hbm, ⟨33, _⟩ => ⟨S128x80, .bf16⟩
  | .hbm, ⟨34, _⟩ => ⟨S4x64, .f32⟩
  | .hbm, ⟨35, _⟩ => ⟨S64x4, .f32⟩
  | .hbm, ⟨36, _⟩ => ⟨S64x4, .bf16⟩
  | .hbm, ⟨37, _⟩ => ⟨S_, .i32⟩
  | .hbm, ⟨38, _⟩ => ⟨S_, .bf16⟩
  | .hbm, ⟨39, _⟩ => ⟨S64x8, .bf16⟩
  | .hbm, ⟨40, _⟩ => ⟨S1x128, .f32⟩
  | .hbm, ⟨41, _⟩ => ⟨S1x80, .f32⟩
  | .hbm, ⟨42, _⟩ => ⟨S1x64, .f32⟩
  | .hbm, ⟨43, _⟩ => ⟨S_, .i32⟩
  | .hbm, ⟨44, _⟩ => ⟨S_, .f32⟩
  | .hbm, ⟨45, _⟩ => ⟨S8, .f32⟩
  | .hbm, ⟨46, _⟩ => ⟨S1x8, .f32⟩
  | .hbm, ⟨47, _⟩ => ⟨S8x80x16384, .f32⟩
  | .hbm, ⟨48, _⟩ => ⟨S8x4x16384, .f32⟩
  | .local _ .vmem, ⟨0, _⟩ => ⟨S576x192, .bf16⟩
  | .local _ .vmem, ⟨1, _⟩ => ⟨S1x192, .f32⟩
  | .local _ .vmem, ⟨2, _⟩ => ⟨S1152x128, .bf16⟩
  | .local _ .vmem, ⟨3, _⟩ => ⟨S1x128, .f32⟩
  | .local _ .vmem, ⟨4, _⟩ => ⟨S128x80, .bf16⟩
  | .local _ .vmem, ⟨5, _⟩ => ⟨S1x80, .f32⟩
  | .local _ .vmem, ⟨6, _⟩ => ⟨S576x64, .bf16⟩
  | .local _ .vmem, ⟨7, _⟩ => ⟨S1x64, .f32⟩
  | .local _ .vmem, ⟨8, _⟩ => ⟨S64x8, .bf16⟩
  | .local _ .vmem, ⟨9, _⟩ => ⟨S1x8, .f32⟩
  | .local _ .vmem, ⟨10, _⟩ => ⟨S1x80x16384, .f32⟩
  | .local _ .vmem, ⟨11, _⟩ => ⟨S1x80x16384, .f32⟩
  | .local _ .vmem, ⟨12, _⟩ => ⟨S1x4x16384, .f32⟩
  | .local _ .vmem, ⟨13, _⟩ => ⟨S1x4x16384, .f32⟩
  | .local _ .vmem, ⟨14, _⟩ => ⟨S16640x64, .bf16⟩
  | .local _ .vmem, ⟨15, _⟩ => ⟨S16640x64, .bf16⟩
  | .local _ .vmem, ⟨16, _⟩ => ⟨S16640x64, .bf16⟩
  | .local _ .vmem, ⟨17, _⟩ => ⟨S16640x128, .bf16⟩
  | .local _ .vmem, ⟨18, _⟩ => ⟨S16640x128, .bf16⟩
  | .local _ .vmem, ⟨19, _⟩ => ⟨S16640x128, .bf16⟩
  | .local _ .vmem, ⟨20, _⟩ => ⟨S16640x64, .bf16⟩
  | _, _ => ⟨S8x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_0 : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem10_1 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let c0_i32_0 : BitVec 32 := 0#32
  let c0_i32_1 : BitVec 32 := 0#32
  ![arg0.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S576x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1152x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x80 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S576x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x8 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x80x16384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x16384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8x64x128x128 : Shape := ⟨4, ![8, 64, 128, 128]⟩
abbrev S128x64x3x3 : Shape := ⟨4, ![128, 64, 3, 3]⟩
abbrev S128 : Shape := ⟨1, ![128]⟩
abbrev S128x128x3x3 : Shape := ⟨4, ![128, 128, 3, 3]⟩
abbrev S80x128x1x1 : Shape := ⟨4, ![80, 128, 1, 1]⟩
abbrev S80 : Shape := ⟨1, ![80]⟩
abbrev S64x64x3x3 : Shape := ⟨4, ![64, 64, 3, 3]⟩
abbrev S64 : Shape := ⟨1, ![64]⟩
abbrev S4x64x1x1 : Shape := ⟨4, ![4, 64, 1, 1]⟩
abbrev S4 : Shape := ⟨1, ![4]⟩
abbrev S_ : Shape := ⟨0, ![]⟩
abbrev S8x64x130x130 : Shape := ⟨4, ![8, 64, 130, 130]⟩
abbrev S128x64x1x1 : Shape := ⟨4, ![128, 64, 1, 1]⟩
abbrev S128x64 : Shape := ⟨2, ![128, 64]⟩
abbrev S8x128x128x128 : Shape := ⟨4, ![8, 128, 128, 128]⟩
abbrev S1x128x1x1 : Shape := ⟨4, ![1, 128, 1, 1]⟩
abbrev S8x128x130x130 : Shape := ⟨4, ![8, 128, 130, 130]⟩
abbrev S128x128x1x1 : Shape := ⟨4, ![128, 128, 1, 1]⟩
abbrev S128x128 : Shape := ⟨2, ![128, 128]⟩
abbrev S80x128 : Shape := ⟨2, ![80, 128]⟩
abbrev S8x128x128x80 : Shape := ⟨4, ![8, 128, 128, 80]⟩
abbrev S8x80x128x128 : Shape := ⟨4, ![8, 80, 128, 128]⟩
abbrev S1x80x1x1 : Shape := ⟨4, ![1, 80, 1, 1]⟩
abbrev S64x64x1x1 : Shape := ⟨4, ![64, 64, 1, 1]⟩
abbrev S64x64 : Shape := ⟨2, ![64, 64]⟩
abbrev S8x128x128x64 : Shape := ⟨4, ![8, 128, 128, 64]⟩
abbrev S1x64x1x1 : Shape := ⟨4, ![1, 64, 1, 1]⟩
abbrev S4x64 : Shape := ⟨2, ![4, 64]⟩
abbrev S8x128x128x4 : Shape := ⟨4, ![8, 128, 128, 4]⟩
abbrev S8x4x128x128 : Shape := ⟨4, ![8, 4, 128, 128]⟩
abbrev S1x4x1x1 : Shape := ⟨4, ![1, 4, 1, 1]⟩
abbrev S8x80x16384 : Shape := ⟨3, ![8, 80, 16384]⟩
abbrev S8x4x16384 : Shape := ⟨3, ![8, 4, 16384]⟩

abbrev nBuf : Space → Nat
  | .hbm => 281
  | .vmem => 0
  | .smem => 0
  | _ => 0

abbrev hbmTy0_0 (i : Nat) : BufTy := match i % 128 with
  | 0 => ⟨S8x64x128x128, .f32⟩
  | 1 => ⟨S128x64x3x3, .f32⟩
  | 2 => ⟨S128, .f32⟩
  | 3 => ⟨S128x128x3x3, .f32⟩
  | 4 => ⟨S128, .f32⟩
  | 5 => ⟨S80x128x1x1, .f32⟩
  | 6 => ⟨S80, .f32⟩
  | 7 => ⟨S64x64x3x3, .f32⟩
  | 8 => ⟨S64, .f32⟩
  | 9 => ⟨S64x64x3x3, .f32⟩
  | 10 => ⟨S64, .f32⟩
  | 11 => ⟨S4x64x1x1, .f32⟩
  | 12 => ⟨S4, .f32⟩
  | 13 => ⟨S_, .i32⟩
  | 14 => ⟨S_, .f32⟩
  | 15 => ⟨S8x64x130x130, .f32⟩
  | 16 => ⟨S128x64x1x1, .f32⟩
  | 17 => ⟨S128x64, .f32⟩
  | 18 => ⟨S8x64x128x128, .f32⟩
  | 19 => ⟨S8x128x128x128, .f32⟩
  | 20 => ⟨S8x128x128x128, .f32⟩
  | 21 => ⟨S128x64x1x1, .f32⟩
  | 22 => ⟨S128x64, .f32⟩
  | 23 => ⟨S8x64x128x128, .f32⟩
  | 24 => ⟨S8x128x128x128, .f32⟩
  | 25 => ⟨S8x128x128x128, .f32⟩
  | 26 => ⟨S8x128x128x128, .f32⟩
  | 27 => ⟨S128x64x1x1, .f32⟩
  | 28 => ⟨S128x64, .f32⟩
  | 29 => ⟨S8x64x128x128, .f32⟩
  | 30 => ⟨S8x128x128x128, .f32⟩
  | 31 => ⟨S8x128x128x128, .f32⟩
  | 32 => ⟨S8x128x128x128, .f32⟩
  | 33 => ⟨S128x64x1x1, .f32⟩
  | 34 => ⟨S128x64, .f32⟩
  | 35 => ⟨S8x64x128x128, .f32⟩
  | 36 => ⟨S8x128x128x128, .f32⟩
  | 37 => ⟨S8x128x128x128, .f32⟩
  | 38 => ⟨S8x128x128x128, .f32⟩
  | 39 => ⟨S128x64x1x1, .f32⟩
  | 40 => ⟨S128x64, .f32⟩
  | 41 => ⟨S8x64x128x128, .f32⟩
  | 42 => ⟨S8x128x128x128, .f32⟩
  | 43 => ⟨S8x128x128x128, .f32⟩
  | 44 => ⟨S8x128x128x128, .f32⟩
  | 45 => ⟨S128x64x1x1, .f32⟩
  | 46 => ⟨S128x64, .f32⟩
  | 47 => ⟨S8x64x128x128, .f32⟩
  | 48 => ⟨S8x128x128x128, .f32⟩
  | 49 => ⟨S8x128x128x128, .f32⟩
  | 50 => ⟨S8x128x128x128, .f32⟩
  | 51 => ⟨S128x64x1x1, .f32⟩
  | 52 => ⟨S128x64, .f32⟩
  | 53 => ⟨S8x64x128x128, .f32⟩
  | 54 => ⟨S8x128x128x128, .f32⟩
  | 55 => ⟨S8x128x128x128, .f32⟩
  | 56 => ⟨S8x128x128x128, .f32⟩
  | 57 => ⟨S128x64x1x1, .f32⟩
  | 58 => ⟨S128x64, .f32⟩
  | 59 => ⟨S8x64x128x128, .f32⟩
  | 60 => ⟨S8x128x128x128, .f32⟩
  | 61 => ⟨S8x128x128x128, .f32⟩
  | 62 => ⟨S8x128x128x128, .f32⟩
  | 63 => ⟨S128x64x1x1, .f32⟩
  | 64 => ⟨S128x64, .f32⟩
  | 65 => ⟨S8x64x128x128, .f32⟩
  | 66 => ⟨S8x128x128x128, .f32⟩
  | 67 => ⟨S8x128x128x128, .f32⟩
  | 68 => ⟨S8x128x128x128, .f32⟩
  | 69 => ⟨S1x128x1x1, .f32⟩
  | 70 => ⟨S8x128x128x128, .f32⟩
  | 71 => ⟨S8x128x128x128, .f32⟩
  | 72 => ⟨S_, .f32⟩
  | 73 => ⟨S8x128x128x128, .f32⟩
  | 74 => ⟨S8x128x128x128, .f32⟩
  | 75 => ⟨S_, .i32⟩
  | 76 => ⟨S_, .f32⟩
  | 77 => ⟨S8x128x130x130, .f32⟩
  | 78 => ⟨S128x128x1x1, .f32⟩
  | 79 => ⟨S128x128, .f32⟩
  | 80 => ⟨S8x128x128x128, .f32⟩
  | 81 => ⟨S8x128x128x128, .f32⟩
  | 82 => ⟨S8x128x128x128, .f32⟩
  | 83 => ⟨S128x128x1x1, .f32⟩
  | 84 => ⟨S128x128, .f32⟩
  | 85 => ⟨S8x128x128x128, .f32⟩
  | 86 => ⟨S8x128x128x128, .f32⟩
  | 87 => ⟨S8x128x128x128, .f32⟩
  | 88 => ⟨S8x128x128x128, .f32⟩
  | 89 => ⟨S128x128x1x1, .f32⟩
  | 90 => ⟨S128x128, .f32⟩
  | 91 => ⟨S8x128x128x128, .f32⟩
  | 92 => ⟨S8x128x128x128, .f32⟩
  | 93 => ⟨S8x128x128x128, .f32⟩
  | 94 => ⟨S8x128x128x128, .f32⟩
  | 95 => ⟨S128x128x1x1, .f32⟩
  | 96 => ⟨S128x128, .f32⟩
  | 97 => ⟨S8x128x128x128, .f32⟩
  | 98 => ⟨S8x128x128x128, .f32⟩
  | 99 => ⟨S8x128x128x128, .f32⟩
  | 100 => ⟨S8x128x128x128, .f32⟩
  | 101 => ⟨S128x128x1x1, .f32⟩
  | 102 => ⟨S128x128, .f32⟩
  | 103 => ⟨S8x128x128x128, .f32⟩
  | 104 => ⟨S8x128x128x128, .f32⟩
  | 105 => ⟨S8x128x128x128, .f32⟩
  | 106 => ⟨S8x128x128x128, .f32⟩
  | 107 => ⟨S128x128x1x1, .f32⟩
  | 108 => ⟨S128x128, .f32⟩
  | 109 => ⟨S8x128x128x128, .f32⟩
  | 110 => ⟨S8x128x128x128, .f32⟩
  | 111 => ⟨S8x128x128x128, .f32⟩
  | 112 => ⟨S8x128x128x128, .f32⟩
  | 113 => ⟨S128x128x1x1, .f32⟩
  | 114 => ⟨S128x128, .f32⟩
  | 115 => ⟨S8x128x128x128, .f32⟩
  | 116 => ⟨S8x128x128x128, .f32⟩
  | 117 => ⟨S8x128x128x128, .f32⟩
  | 118 => ⟨S8x128x128x128, .f32⟩
  | 119 => ⟨S128x128x1x1, .f32⟩
  | 120 => ⟨S128x128, .f32⟩
  | 121 => ⟨S8x128x128x128, .f32⟩
  | 122 => ⟨S8x128x128x128, .f32⟩
  | 123 => ⟨S8x128x128x128, .f32⟩
  | 124 => ⟨S8x128x128x128, .f32⟩
  | 125 => ⟨S128x128x1x1, .f32⟩
  | 126 => ⟨S128x128, .f32⟩
  | 127 => ⟨S8x128x128x128, .f32⟩
  | _ => ⟨S8x64x128x128, .f32⟩

abbrev hbmTy0_1 (i : Nat) : BufTy := match i % 128 with
  | 0 => ⟨S8x128x128x128, .f32⟩
  | 1 => ⟨S8x128x128x128, .f32⟩
  | 2 => ⟨S8x128x128x128, .f32⟩
  | 3 => ⟨S1x128x1x1, .f32⟩
  | 4 => ⟨S8x128x128x128, .f32⟩
  | 5 => ⟨S8x128x128x128, .f32⟩
  | 6 => ⟨S_, .f32⟩
  | 7 => ⟨S8x128x128x128, .f32⟩
  | 8 => ⟨S8x128x128x128, .f32⟩
  | 9 => ⟨S80x128, .f32⟩
  | 10 => ⟨S8x128x128x80, .f32⟩
  | 11 => ⟨S8x80x128x128, .f32⟩
  | 12 => ⟨S1x80x1x1, .f32⟩
  | 13 => ⟨S8x80x128x128, .f32⟩
  | 14 => ⟨S8x80x128x128, .f32⟩
  | 15 => ⟨S_, .i32⟩
  | 16 => ⟨S_, .f32⟩
  | 17 => ⟨S8x64x130x130, .f32⟩
  | 18 => ⟨S64x64x1x1, .f32⟩
  | 19 => ⟨S64x64, .f32⟩
  | 20 => ⟨S8x64x128x128, .f32⟩
  | 21 => ⟨S8x128x128x64, .f32⟩
  | 22 => ⟨S8x64x128x128, .f32⟩
  | 23 => ⟨S64x64x1x1, .f32⟩
  | 24 => ⟨S64x64, .f32⟩
  | 25 => ⟨S8x64x128x128, .f32⟩
  | 26 => ⟨S8x128x128x64, .f32⟩
  | 27 => ⟨S8x64x128x128, .f32⟩
  | 28 => ⟨S8x64x128x128, .f32⟩
  | 29 => ⟨S64x64x1x1, .f32⟩
  | 30 => ⟨S64x64, .f32⟩
  | 31 => ⟨S8x64x128x128, .f32⟩
  | 32 => ⟨S8x128x128x64, .f32⟩
  | 33 => ⟨S8x64x128x128, .f32⟩
  | 34 => ⟨S8x64x128x128, .f32⟩
  | 35 => ⟨S64x64x1x1, .f32⟩
  | 36 => ⟨S64x64, .f32⟩
  | 37 => ⟨S8x64x128x128, .f32⟩
  | 38 => ⟨S8x128x128x64, .f32⟩
  | 39 => ⟨S8x64x128x128, .f32⟩
  | 40 => ⟨S8x64x128x128, .f32⟩
  | 41 => ⟨S64x64x1x1, .f32⟩
  | 42 => ⟨S64x64, .f32⟩
  | 43 => ⟨S8x64x128x128, .f32⟩
  | 44 => ⟨S8x128x128x64, .f32⟩
  | 45 => ⟨S8x64x128x128, .f32⟩
  | 46 => ⟨S8x64x128x128, .f32⟩
  | 47 => ⟨S64x64x1x1, .f32⟩
  | 48 => ⟨S64x64, .f32⟩
  | 49 => ⟨S8x64x128x128, .f32⟩
  | 50 => ⟨S8x128x128x64, .f32⟩
  | 51 => ⟨S8x64x128x128, .f32⟩
  | 52 => ⟨S8x64x128x128, .f32⟩
  | 53 => ⟨S64x64x1x1, .f32⟩
  | 54 => ⟨S64x64, .f32⟩
  | 55 => ⟨S8x64x128x128, .f32⟩
  | 56 => ⟨S8x128x128x64, .f32⟩
  | 57 => ⟨S8x64x128x128, .f32⟩
  | 58 => ⟨S8x64x128x128, .f32⟩
  | 59 => ⟨S64x64x1x1, .f32⟩
  | 60 => ⟨S64x64, .f32⟩
  | 61 => ⟨S8x64x128x128, .f32⟩
  | 62 => ⟨S8x128x128x64, .f32⟩
  | 63 => ⟨S8x64x128x128, .f32⟩
  | 64 => ⟨S8x64x128x128, .f32⟩
  | 65 => ⟨S64x64x1x1, .f32⟩
  | 66 => ⟨S64x64, .f32⟩
  | 67 => ⟨S8x64x128x128, .f32⟩
  | 68 => ⟨S8x128x128x64, .f32⟩
  | 69 => ⟨S8x64x128x128, .f32⟩
  | 70 => ⟨S8x64x128x128, .f32⟩
  | 71 => ⟨S1x64x1x1, .f32⟩
  | 72 => ⟨S8x64x128x128, .f32⟩
  | 73 => ⟨S8x64x128x128, .f32⟩
  | 74 => ⟨S_, .f32⟩
  | 75 => ⟨S8x64x128x128, .f32⟩
  | 76 => ⟨S8x64x128x128, .f32⟩
  | 77 => ⟨S_, .i32⟩
  | 78 => ⟨S_, .f32⟩
  | 79 => ⟨S8x64x130x130, .f32⟩
  | 80 => ⟨S64x64x1x1, .f32⟩
  | 81 => ⟨S64x64, .f32⟩
  | 82 => ⟨S8x64x128x128, .f32⟩
  | 83 => ⟨S8x128x128x64, .f32⟩
  | 84 => ⟨S8x64x128x128, .f32⟩
  | 85 => ⟨S64x64x1x1, .f32⟩
  | 86 => ⟨S64x64, .f32⟩
  | 87 => ⟨S8x64x128x128, .f32⟩
  | 88 => ⟨S8x128x128x64, .f32⟩
  | 89 => ⟨S8x64x128x128, .f32⟩
  | 90 => ⟨S8x64x128x128, .f32⟩
  | 91 => ⟨S64x64x1x1, .f32⟩
  | 92 => ⟨S64x64, .f32⟩
  | 93 => ⟨S8x64x128x128, .f32⟩
  | 94 => ⟨S8x128x128x64, .f32⟩
  | 95 => ⟨S8x64x128x128, .f32⟩
  | 96 => ⟨S8x64x128x128, .f32⟩
  | 97 => ⟨S64x64x1x1, .f32⟩
  | 98 => ⟨S64x64, .f32⟩
  | 99 => ⟨S8x64x128x128, .f32⟩
  | 100 => ⟨S8x128x128x64, .f32⟩
  | 101 => ⟨S8x64x128x128, .f32⟩
  | 102 => ⟨S8x64x128x128, .f32⟩
  | 103 => ⟨S64x64x1x1, .f32⟩
  | 104 => ⟨S64x64, .f32⟩
  | 105 => ⟨S8x64x128x128, .f32⟩
  | 106 => ⟨S8x128x128x64, .f32⟩
  | 107 => ⟨S8x64x128x128, .f32⟩
  | 108 => ⟨S8x64x128x128, .f32⟩
  | 109 => ⟨S64x64x1x1, .f32⟩
  | 110 => ⟨S64x64, .f32⟩
  | 111 => ⟨S8x64x128x128, .f32⟩
  | 112 => ⟨S8x128x128x64, .f32⟩
  | 113 => ⟨S8x64x128x128, .f32⟩
  | 114 => ⟨S8x64x128x128, .f32⟩
  | 115 => ⟨S64x64x1x1, .f32⟩
  | 116 => ⟨S64x64, .f32⟩
  | 117 => ⟨S8x64x128x128, .f32⟩
  | 118 => ⟨S8x128x128x64, .f32⟩
  | 119 => ⟨S8x64x128x128, .f32⟩
  | 120 => ⟨S8x64x128x128, .f32⟩
  | 121 => ⟨S64x64x1x1, .f32⟩
  | 122 => ⟨S64x64, .f32⟩
  | 123 => ⟨S8x64x128x128, .f32⟩
  | 124 => ⟨S8x128x128x64, .f32⟩
  | 125 => ⟨S8x64x128x128, .f32⟩
  | 126 => ⟨S8x64x128x128, .f32⟩
  | 127 => ⟨S64x64x1x1, .f32⟩
  | _ => ⟨S8x64x128x128, .f32⟩

abbrev hbmTy0_2 (i : Nat) : BufTy := match i % 128 with
  | 0 => ⟨S64x64, .f32⟩
  | 1 => ⟨S8x64x128x128, .f32⟩
  | 2 => ⟨S8x128x128x64, .f32⟩
  | 3 => ⟨S8x64x128x128, .f32⟩
  | 4 => ⟨S8x64x128x128, .f32⟩
  | 5 => ⟨S1x64x1x1, .f32⟩
  | 6 => ⟨S8x64x128x128, .f32⟩
  | 7 => ⟨S8x64x128x128, .f32⟩
  | 8 => ⟨S_, .f32⟩
  | 9 => ⟨S8x64x128x128, .f32⟩
  | 10 => ⟨S8x64x128x128, .f32⟩
  | 11 => ⟨S4x64, .f32⟩
  | 12 => ⟨S8x128x128x4, .f32⟩
  | 13 => ⟨S8x4x128x128, .f32⟩
  | 14 => ⟨S1x4x1x1, .f32⟩
  | 15 => ⟨S8x4x128x128, .f32⟩
  | 16 => ⟨S8x4x128x128, .f32⟩
  | 17 => ⟨S_, .f32⟩
  | 18 => ⟨S8x4x128x128, .f32⟩
  | 19 => ⟨S8x4x128x128, .f32⟩
  | 20 => ⟨S_, .f32⟩
  | 21 => ⟨S8x4x128x128, .f32⟩
  | 22 => ⟨S8x4x128x128, .f32⟩
  | 23 => ⟨S8x80x16384, .f32⟩
  | 24 => ⟨S8x4x16384, .f32⟩
  | _ => ⟨S8x64x128x128, .f32⟩

abbrev hbmTy (i : Nat) : BufTy := match i / 128 with
  | 0 => hbmTy0_0 i
  | 1 => hbmTy0_1 i
  | 2 => hbmTy0_2 i
  | _ => ⟨S8x64x128x128, .f32⟩

abbrev bufTy : (tb : Table) → Fin (tcTables nBuf tb) → BufTy
  | .hbm, ⟨i, _⟩ => hbmTy i
  | _, _ => ⟨S8x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst : Ref sig .tc := ⟨.hbm, 72, rfl⟩
abbrev main_v57 : Ref sig .tc := ⟨.hbm, 73, rfl⟩
abbrev main_v58 : Ref sig .tc := ⟨.hbm, 74, rfl⟩
abbrev main_c_0 : Ref sig .tc := ⟨.hbm, 75, rfl⟩
abbrev main_call1_v0 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_cst_1 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_c_2 : Ref sig .tc := ⟨.hbm, 143, rfl⟩
abbrev main_call2_v0 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_cst_3 : Ref sig .tc := ⟨.hbm, 202, rfl⟩
abbrev main_v181 : Ref sig .tc := ⟨.hbm, 203, rfl⟩
abbrev main_v182 : Ref sig .tc := ⟨.hbm, 204, rfl⟩
abbrev main_c_4 : Ref sig .tc := ⟨.hbm, 205, rfl⟩
abbrev main_call3_v0 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_cst_5 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_v246 : Ref sig .tc := ⟨.hbm, 271, rfl⟩
abbrev main_v247 : Ref sig .tc := ⟨.hbm, 272, rfl⟩
abbrev main_cst_6 : Ref sig .tc := ⟨.hbm, 273, rfl⟩
abbrev main_v248 : Ref sig .tc := ⟨.hbm, 274, rfl⟩
abbrev main_v249 : Ref sig .tc := ⟨.hbm, 275, rfl⟩
abbrev main_cst_7 : Ref sig .tc := ⟨.hbm, 276, rfl⟩
abbrev main_v250 : Ref sig .tc := ⟨.hbm, 277, rfl⟩
abbrev main_v251 : Ref sig .tc := ⟨.hbm, 278, rfl⟩
abbrev main_v252 : Ref sig .tc := ⟨.hbm, 279, rfl⟩
abbrev main_v253 : Ref sig .tc := ⟨.hbm, 280, rfl⟩

abbrev nD : Nat := 1
abbrev τ : Topo := Topo.v7x

variable {F : FTy → Type} [FloatOps F]
-- ==== Proof.Args.lean ====
module

public import proofs.«01_k».proof.Proof.Gen.KernelIdeal.Value
public import Idealize.ShloMosaic.Lib.Pipeline.ReadBack
public import Idealize.ShloMosaic.Lib.Pointwise
public import Idealize.ShloMosaic.Lib.ValueIdx

@[expose] public section

set_option maxRecDepth 16384

noncomputable section

namespace Cert.KernelIdeal.Value

open Cert.KernelIdeal Cert.KernelIdeal.Gen Idealize.ShloMosaic Idealize.ShloMosaic.TcCoe Idealize.SL.Sem

/-- Everything one run of the kernel's body is given: its point, its buffers, the contents of its operand
blocks, what the point before left in the three scratches kept from point to point, and the array it copies
an image from. -/
structure Args (c : Dev nD) where
  i : grid0.Coords
  arg2 : Memref sig .tc .vmem S576x192 .bf16
  harg2 : arg2.IsWhole
  arg3 : Memref sig .tc .vmem S1x192 .f32
  harg3 : arg3.IsWhole
  arg4 : Memref sig .tc .vmem S1152x128 .bf16
  harg4 : arg4.IsWhole
  arg5 : Memref sig .tc .vmem S1x128 .f32
  harg5 : arg5.IsWhole
  arg6 : Memref sig .tc .vmem S128x80 .bf16
  harg6 : arg6.IsWhole
  arg7 : Memref sig .tc .vmem S1x80 .f32
  harg7 : arg7.IsWhole
  arg8 : Memref sig .tc .vmem S576x64 .bf16
  harg8 : arg8.IsWhole
  arg9 : Memref sig .tc .vmem S1x64 .f32
  harg9 : arg9.IsWhole
  arg10 : Memref sig .tc .vmem S64x8 .bf16
  harg10 : arg10.IsWhole
  arg11 : Memref sig .tc .vmem S1x8 .f32
  harg11 : arg11.IsWhole
  arg12 : Memref sig .tc .vmem S1x80x16384 .f32
  harg12 : arg12.IsWhole
  arg13 : Memref sig .tc .vmem S1x4x16384 .f32
  harg13 : arg13.IsWhole
  arg14 : Memref sig .tc .vmem S16640x64 .bf16
  harg14 : arg14.IsWhole
  arg15 : Memref sig .tc .vmem S16640x64 .bf16
  harg15 : arg15.IsWhole
  arg16 : Memref sig .tc .vmem S16640x64 .bf16
  harg16 : arg16.IsWhole
  arg17 : Memref sig .tc .vmem S16640x128 .bf16
  harg17 : arg17.IsWhole
  arg18 : Memref sig .tc .vmem S16640x128 .bf16
  harg18 : arg18.IsWhole
  arg19 : Memref sig .tc .vmem S16640x128 .bf16
  harg19 : arg19.IsWhole
  arg20 : Memref sig .tc .vmem S16640x64 .bf16
  harg20 : arg20.IsWhole
  x0 : Vec Ideal S576x192 .bf16
  x1 : Vec Ideal S1x192 .f32
  x2 : Vec Ideal S1152x128 .bf16
  x3 : Vec Ideal S1x128 .f32
  x4 : Vec Ideal S128x80 .bf16
  x5 : Vec Ideal S1x80 .f32
  x6 : Vec Ideal S576x64 .bf16
  x7 : Vec Ideal S1x64 .f32
  x8 : Vec Ideal S64x8 .bf16
  x9 : Vec Ideal S1x8 .f32
  xs0 : Vec Ideal S16640x64 .bf16
  xs3 : Vec Ideal S16640x128 .bf16
  xs6 : Vec Ideal S16640x64 .bf16
  fh0 : HbBuf0 (F := Ideal) c hbM0_0

variable {c : Dev nD}

/-- The body's run at the first point, where the pads are written. -/
def Args.runA (a : Args c) (hc : cond0_0 a.i) := kernelRun0_A (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.fh0

/-- The body's run at a later point. -/
def Args.runB (a : Args c) (hc : ¬cond0_0 a.i) := kernelRun0_B (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.xs0 a.xs3 a.xs6 a.fh0

end Cert.KernelIdeal.Value

end
-- ==== Proof.Spec.lean ====
module

public import Idealize.ShloMosaic.Lib.Pointwise
public import Idealize.ShloMosaic.Lib.ValueIdx

@[expose] public section

noncomputable section

/-! # The two convolutions as plain sums over the extended reals

The words both sides of the value claim are read into: an image extended by a border of zeros, and the
`3 × 3` convolution of a stack of such images with one output channel's weights. -/

namespace Cert.Spec

/-- A `128 × 128` image with a border of zeros one wide: entry `(i, j)` of the `130 × 130` array. -/
def bordered (x : Fin 128 → Fin 128 → EReal) (i j : ℕ) : EReal :=
  if h : 1 ≤ i ∧ i < 129 ∧ 1 ≤ j ∧ j < 129 then x ⟨i - 1, by omega⟩ ⟨j - 1, by omega⟩ else 0

/-- Entry `(h, w)` of the `3 × 3` convolution of `C` images with one output channel's weights. -/
def conv {C : ℕ} (x : Fin C → Fin 128 → Fin 128 → EReal) (wt : Fin C → Fin 3 → Fin 3 → EReal)
    (h w : Fin 128) : EReal :=
  ∑ i : Fin 3, ∑ j : Fin 3, ∑ c : Fin C, bordered (x c) (i.val + h.val) (j.val + w.val) * wt c i j

/-- One layer: per output channel a convolution with its bias, cut below at zero. -/
def layer {C O : ℕ} (x : Fin C → Fin 128 → Fin 128 → EReal) (wt : Fin O → Fin C → Fin 3 → Fin 3 → EReal)
    (b : Fin O → EReal) (o : Fin O) (h w : Fin 128) : EReal :=
  max (conv x (wt o) h w + b o) 0

/-- The last layer: per output channel a weighted sum of the channels at one pixel, with a bias. -/
def mix {C O : ℕ} (x : Fin C → Fin 128 → Fin 128 → EReal) (wt : Fin O → Fin C → EReal)
    (b : Fin O → EReal) (o : Fin O) (h w : Fin 128) : EReal :=
  (∑ c : Fin C, x c h w * wt o c) + b o

end Cert.Spec

end
-- ==== Proof.Rows.lean ====
module

public import proofs.«01_k».proof.Proof.Spec

@[expose] public section

noncomputable section

/-! # Images laid out as rows

The kernel keeps a stack of images as an array of 16640 rows, one row per pixel with the channels along it:
128 rows of zeros, the 16384 pixels, 128 rows of zeros. Two more arrays hold it moved by one pixel to either
side, with zeros where the move leaves the image's line. Row `p + 128 i` of the three arrays is what the
`3 × 3` window of pixel `p` reads in line `i`. -/

namespace Cert.Spec

variable {C : ℕ}

/-- Row `q` of the array of pixels, zeros in front and behind. -/
def rows (v : Fin C → Fin 128 → Fin 128 → EReal) (q : ℕ) (c : Fin C) : EReal :=
  if h : 128 ≤ q ∧ q < 16512 then
    v c ⟨(q - 128) / 128, by omega⟩ ⟨(q - 128) % 128, Nat.mod_lt _ (by decide)⟩
  else 0

/-- Row `q` of the array moved so that a pixel meets its left neighbour. -/
def leftRows (v : Fin C → Fin 128 → Fin 128 → EReal) (q : ℕ) (c : Fin C) : EReal :=
  if q % 128 ≠ 0 ∧ q < 16512 then rows v (q - 1) c else 0

/-- Row `q` of the array moved so that a pixel meets its right neighbour. -/
def rightRows (v : Fin C → Fin 128 → Fin 128 → EReal) (q : ℕ) (c : Fin C) : EReal :=
  if q % 128 ≠ 127 ∧ 128 ≤ q then rows v (q + 1) c else 0

/-- Outside the pixels the rows are zero. -/
theorem rows_pad (v : Fin C → Fin 128 → Fin 128 → EReal) (q : ℕ) (c : Fin C) (h : ¬(128 ≤ q ∧ q < 16512)) :
    rows v q c = 0 := dif_neg h

/-- The row of a pixel holds the pixel. -/
theorem rows_pixel (v : Fin C → Fin 128 → Fin 128 → EReal) (p : ℕ) (c : Fin C) (hp : p < 16384) :
    rows v (128 + p) c = v c ⟨p / 128, by omega⟩ ⟨p % 128, Nat.mod_lt _ (by decide)⟩ := by
  unfold rows
  rw [dif_pos ⟨by omega, by omega⟩]
  congr 2 <;> omega

/-- The middle column of the window: the pixel's own line entry. -/
theorem rows_tap (v : Fin C → Fin 128 → Fin 128 → EReal) (h w : Fin 128) (i q : ℕ) (c : Fin C)
    (hq : q = 128 * (i + h) + w) : rows v q c = bordered (v c) (i + h) (1 + w) := by
  have hw := w.isLt
  unfold rows bordered
  by_cases hc : 128 ≤ q ∧ q < 16512
  · rw [dif_pos hc, dif_pos ⟨by omega, by omega, by omega, by omega⟩]
    congr 2 <;> omega
  · rw [dif_neg hc, dif_neg (by omega)]

/-- The left column of the window. -/
theorem leftRows_tap (v : Fin C → Fin 128 → Fin 128 → EReal) (h w : Fin 128) (i q : ℕ) (c : Fin C)
    (hq : q = 128 * (i + h) + w) : leftRows v q c = bordered (v c) (i + h) (0 + w) := by
  have hw := w.isLt
  unfold leftRows
  by_cases hc : q % 128 ≠ 0 ∧ q < 16512
  · rw [if_pos hc, rows_tap v h ⟨w - 1, by omega⟩ i (q - 1) c (by simp only; omega)]
    congr 1
    simp only
    omega
  · rw [if_neg hc, bordered, dif_neg (by omega)]

/-- The right column of the window. -/
theorem rightRows_tap (v : Fin C → Fin 128 → Fin 128 → EReal) (h w : Fin 128) (i q : ℕ) (c : Fin C)
    (hq : q = 128 * (i + h) + w) : rightRows v q c = bordered (v c) (i + h) (2 + w) := by
  have hw := w.isLt
  unfold rightRows
  by_cases hc : q % 128 ≠ 127 ∧ 128 ≤ q
  · rw [if_pos hc, rows_tap v h ⟨w + 1, by omega⟩ i (q + 1) c (by simp only; omega)]
    congr 1
    simp only
    omega
  · rw [if_neg hc, bordered, dif_neg (by omega)]

/-- The nine products of a window, added column by column as the kernel lays them out, are the convolution. -/
theorem conv_eq_columns (v : Fin C → Fin 128 → Fin 128 → EReal) (wt : Fin C → Fin 3 → Fin 3 → EReal)
    (h w : Fin 128) (q : ℕ) (hq : q = 128 * h + w) :
    conv v wt h w
      = ∑ i : Fin 3, ((∑ c, leftRows v (q + 128 * i) c * wt c i 0) + (∑ c, rows v (q + 128 * i) c * wt c i 1)
          + ∑ c, rightRows v (q + 128 * i) c * wt c i 2) := by
  unfold conv
  refine Finset.sum_congr rfl fun i _ => ?_
  rw [Fin.sum_univ_three]
  have e : q + 128 * i.val = 128 * (i.val + h.val) + w.val := by omega
  simp only [leftRows_tap v h w i _ _ e, rows_tap v h w i _ _ e, rightRows_tap v h w i _ _ e]
  rfl

end Cert.Spec

end
-- ==== Proof.Window.lean ====
module

public import proofs.«01_k».proof.Proof.Rows

@[expose] public section

noncomputable section

/-! # Nine loads laid side by side

One chunk of a convolution is one product: nine blocks of 1024 rows, read from the three arrays of rows at
three row offsets, laid side by side along the channels, times the weights with the window's positions stacked.
-/

namespace Cert.Spec

open Idealize.ShloMosaic

/-- A sum over nine stretches of `n` positions each is nine sums. -/
theorem sum_nine {n N : ℕ} (hN : 9 * n = N) (g : Fin N → EReal) :
    ∑ x, g x = ∑ k : Fin 9, ∑ c : Fin n, g ⟨n * k + c, by
      have := Nat.mul_le_mul_left n (Nat.le_of_lt_succ k.isLt); have := c.isLt; omega⟩ := by
  subst hN
  rw [← Fintype.sum_equiv finProdFinEquiv (fun kc : Fin 9 × Fin n => g (finProdFinEquiv kc)) g fun _ => rfl,
    Fintype.sum_prod_type]
  refine Finset.sum_congr rfl fun k _ => Finset.sum_congr rfl fun c _ => congrArg g (Fin.ext ?_)
  simp only [finProdFinEquiv_apply_val]
  omega

/-- The product's sum over a row of nine pieces, position by position of the window. -/
theorem sum_ladder {n N : ℕ} (hN : 9 * n = N) (v00 v01 v02 v10 v11 v12 v20 v21 v22 : Fin n → EReal)
    (w : Fin N → EReal) :
    (∑ x : Fin N,
      (if h : x.val < n then v00 ⟨x.val, h⟩
       else if h : x.val - n < n then v01 ⟨x.val - n, h⟩
       else if h : x.val - n - n < n then v02 ⟨x.val - n - n, h⟩
       else if h : x.val - n - n - n < n then v10 ⟨x.val - n - n - n, h⟩
       else if h : x.val - n - n - n - n < n then v11 ⟨x.val - n - n - n - n, h⟩
       else if h : x.val - n - n - n - n - n < n then v12 ⟨x.val - n - n - n - n - n, h⟩
       else if h : x.val - n - n - n - n - n - n < n then v20 ⟨x.val - n - n - n - n - n - n, h⟩
       else if h : x.val - n - n - n - n - n - n - n < n then v21 ⟨x.val - n - n - n - n - n - n - n, h⟩
       else v22 ⟨x.val - n - n - n - n - n - n - n - n, by have := x.isLt; omega⟩) * w x)
      = ∑ i : Fin 3, ∑ j : Fin 3, ∑ c : Fin n,
          (![![v00, v01, v02], ![v10, v11, v12], ![v20, v21, v22]] j i) c
            * w ⟨n * (3 * j + i) + c, by
                have := i.isLt; have := j.isLt; have := c.isLt
                have := Nat.mul_le_mul_left n (show 3 * j.val + i.val ≤ 8 by omega)
                omega⟩ := by
  rw [sum_nine hN]
  have e : ∀ f : Fin 9 → EReal, ∑ k, f k = ∑ i : Fin 3, ∑ j : Fin 3, f ⟨3 * j + i, by omega⟩ := by
    intro f
    simp only [Fin.sum_univ_succ, Fin.sum_univ_zero]
    simp only [add_zero]
    change f 0 + (f 1 + (f 2 + (f 3 + (f 4 + (f 5 + (f 6 + (f 7 + f 8))))))) = (f 0 + (f 3 + f 6)) + ((f 1 + (f 4 + f 7)) + (f 2 + (f 5 + f 8)))
    ac_rfl
  rw [e]
  refine Finset.sum_congr rfl fun i _ => Finset.sum_congr rfl fun j _ => Finset.sum_congr rfl fun c _ => ?_
  congr 1
  have hc := c.isLt
  obtain ⟨i, hi⟩ := i
  obtain ⟨j, hj⟩ := j
  simp only []
  interval_cases i <;> interval_cases j <;> (repeat rw [dif_neg (by omega)]) <;>
    (try rw [dif_pos (by omega)]) <;>
    exact congrArg _ (Fin.ext (by dsimp only; omega))

/-- The nine blocks of one chunk: rows `r` on of the left, middle and right arrays, at the row offsets 0, 128
and 256. -/
structure Window {n : ℕ} (v : Fin n → Fin 128 → Fin 128 → EReal) (r : ℕ)
    (l0 l1 l2 m0 m1 m2 p0 p1 p2 : Shape.Idx ⟨2, ![1024, n]⟩ → EReal) : Prop where
  left0 : ∀ p c, l0 (ix2 p c) = leftRows v (r + p.val) c
  left1 : ∀ p c, l1 (ix2 p c) = leftRows v (r + 128 + p.val) c
  left2 : ∀ p c, l2 (ix2 p c) = leftRows v (r + 256 + p.val) c
  mid0 : ∀ p c, m0 (ix2 p c) = rows v (r + p.val) c
  mid1 : ∀ p c, m1 (ix2 p c) = rows v (r + 128 + p.val) c
  mid2 : ∀ p c, m2 (ix2 p c) = rows v (r + 256 + p.val) c
  right0 : ∀ p c, p0 (ix2 p c) = rightRows v (r + p.val) c
  right1 : ∀ p c, p1 (ix2 p c) = rightRows v (r + 128 + p.val) c
  right2 : ∀ p c, p2 (ix2 p c) = rightRows v (r + 256 + p.val) c

/-- One output channel's weights out of a stacked column: entry `(c, i, j)` is at row `n (3 j + i) + c`. -/
def unstack {n N : ℕ} (hN : 9 * n = N) (w : Fin N → EReal) (c : Fin n) (i j : Fin 3) : EReal :=
  w ⟨n * (3 * j + i) + c, by
    have := i.isLt; have := j.isLt; have := c.isLt
    have := Nat.mul_le_mul_left n (show 3 * j.val + i.val ≤ 8 by omega)
    omega⟩

/-- The product of a chunk's nine blocks with a stacked column of weights is the convolution at the chunk's
pixels. -/
theorem Window.sum {n N : ℕ} (hN : 9 * n = N) {v : Fin n → Fin 128 → Fin 128 → EReal} {r : ℕ}
    {l0 l1 l2 m0 m1 m2 p0 p1 p2 : Shape.Idx ⟨2, ![1024, n]⟩ → EReal}
    (W : Window v r l0 l1 l2 m0 m1 m2 p0 p1 p2) (w : Fin N → EReal) (p : Fin 1024) (hr : r + 1024 ≤ 16384) :
    (∑ x : Fin N,
      (if h : x.val < n then l0 (ix2 p ⟨x.val, h⟩)
       else if h : x.val - n < n then l1 (ix2 p ⟨x.val - n, h⟩)
       else if h : x.val - n - n < n then l2 (ix2 p ⟨x.val - n - n, h⟩)
       else if h : x.val - n - n - n < n then m0 (ix2 p ⟨x.val - n - n - n, h⟩)
       else if h : x.val - n - n - n - n < n then m1 (ix2 p ⟨x.val - n - n - n - n, h⟩)
       else if h : x.val - n - n - n - n - n < n then m2 (ix2 p ⟨x.val - n - n - n - n - n, h⟩)
       else if h : x.val - n - n - n - n - n - n < n then p0 (ix2 p ⟨x.val - n - n - n - n - n - n, h⟩)
       else if h : x.val - n - n - n - n - n - n - n < n then p1 (ix2 p ⟨x.val - n - n - n - n - n - n - n, h⟩)
       else p2 (ix2 p ⟨x.val - n - n - n - n - n - n - n - n, by have := x.isLt; omega⟩)) * w x)
      = conv v (unstack hN w) ⟨(r + p) / 128, by omega⟩ ⟨(r + p) % 128, Nat.mod_lt _ (by decide)⟩ := by
  refine (sum_ladder hN (fun c => l0 (ix2 p c)) (fun c => l1 (ix2 p c)) (fun c => l2 (ix2 p c))
    (fun c => m0 (ix2 p c)) (fun c => m1 (ix2 p c)) (fun c => m2 (ix2 p c))
    (fun c => p0 (ix2 p c)) (fun c => p1 (ix2 p c)) (fun c => p2 (ix2 p c)) w).trans ?_
  rw [conv_eq_columns v (unstack hN w) _ _ (r + p) (by dsimp only; omega)]
  refine Finset.sum_congr rfl fun i _ => ?_
  rw [Fin.sum_univ_three]
  have e1 : r + 128 + p.val = r + p.val + 128 := by omega
  have e2 : r + 256 + p.val = r + p.val + 256 := by omega
  match i with
  | 0 => simp [W.left0, W.mid0, W.right0, unstack]
  | 1 => simp [W.left1, W.mid1, W.right1, unstack, e1]
  | 2 => simp [W.left2, W.mid2, W.right2, unstack, e2]

end Cert.Spec

end
-- ==== Proof.Chunk.lean ====
module

public import proofs.«01_k».proof.Proof.Args
public import proofs.«01_k».proof.Proof.Window

@[expose] public section

set_option maxRecDepth 16384

noncomputable section

/-! # What one chunk of 1024 pixels computes

The kernel's products, read at a row: the first layer of both branches at once, the second layer of each
branch, and the weighted sums behind them. -/

namespace Cert.KernelIdeal.Value

open Cert.KernelIdeal Cert.KernelIdeal.Gen Idealize.ShloMosaic Idealize.ShloMosaic.TcCoe Idealize.SL.Sem Cert.Spec

/-- Weights of an output channel out of a stacked matrix. -/
abbrev stackedW {n N M : ℕ} (hN : 9 * n = N) (w : Shape.Idx ⟨2, ![N, M]⟩ → EReal) (o : Fin M) :
    Fin n → Fin 3 → Fin 3 → EReal := unstack hN fun k => w (ix2 k o)

section
variable (v : Fin 64 → Fin 128 → Fin 128 → EReal) (w : Vec Ideal S576x192 .bf16) (b : Vec Ideal S1x192 .f32)

/-- The first branch's first layer: the first 128 columns. -/
def firstH : Fin 128 → Fin 128 → Fin 128 → EReal :=
  layer v (fun o => stackedW rfl w ⟨o, by omega⟩) (fun o => b (ix2 0 ⟨o, by omega⟩))

/-- The second branch's first layer: the last 64 columns. -/
def firstG : Fin 64 → Fin 128 → Fin 128 → EReal :=
  layer v (fun o => stackedW rfl w ⟨128 + o, by omega⟩) (fun o => b (ix2 0 ⟨128 + o, by omega⟩))

variable {v w b} {r : ℕ} {v0 v1 v2 v3 v4 v5 v6 v7 v8 : Vec Ideal S1024x64 .bf16}

/-- One chunk of the first layers' product. -/
theorem pay11_at (W : Window v r v0 v1 v2 v3 v4 v5 v6 v7 v8) (hr : r + 1024 ≤ 16384) (p : Fin 1024) (o : Fin 192) :
    k0_pay11 (F := Ideal) v0 v1 v2 v3 v4 v5 v6 v7 v8 w b (ix2 p o)
      = max (conv v (stackedW rfl w o) ⟨(r + p) / 128, by omega⟩ ⟨(r + p) % 128, Nat.mod_lt _ (by decide)⟩
          + b (ix2 0 o)) 0 := by
  rw [← W.sum rfl (fun k => w (ix2 k o)) p hr]
  pointwise [k0_pay11]

/-- What the chunk leaves in the first branch's rows. -/
theorem pay12_at (W : Window v r v0 v1 v2 v3 v4 v5 v6 v7 v8) (hr : r + 1024 ≤ 16384) (p : Fin 1024) (o : Fin 128) :
    k0_pay12 (F := Ideal) v0 v1 v2 v3 v4 v5 v6 v7 v8 w b (ix2 p o) = rows (firstH v w b) (r + 128 + p) o := by
  rw [show r + 128 + p.val = 128 + (r + p.val) by omega, rows_pixel _ _ _ (by omega)]
  refine Eq.trans ?_ (pay11_at W hr p ⟨o, by omega⟩)
  pointwise [k0_pay12]

/-- What the chunk leaves in the second branch's rows. -/
theorem pay14_at (W : Window v r v0 v1 v2 v3 v4 v5 v6 v7 v8) (hr : r + 1024 ≤ 16384) (p : Fin 1024) (o : Fin 64) :
    k0_pay14 (F := Ideal) (k0_pay13 v0 v1 v2 v3 v4 v5 v6 v7 v8 w b) (ix2 p o) = rows (firstG v w b) (r + 128 + p) o := by
  rw [show r + 128 + p.val = 128 + (r + p.val) by omega, rows_pixel _ _ _ (by omega)]
  refine Eq.trans ?_ (pay11_at W hr p ⟨128 + o, by omega⟩)
  pointwise [k0_pay14, k0_pay13]
end

section
variable {v : Fin 128 → Fin 128 → Fin 128 → EReal} {w : Vec Ideal S1152x128 .bf16} {b : Vec Ideal S1x128 .f32}
  {wo : Vec Ideal S128x80 .bf16} {bo : Vec Ideal S1x80 .f32}
  {r : ℕ} {v0 v1 v2 v3 v4 v5 v6 v7 v8 : Vec Ideal S1024x128 .bf16}

/-- One chunk of the first branch's second layer. -/
theorem pay71_at (W : Window v r v0 v1 v2 v3 v4 v5 v6 v7 v8) (hr : r + 1024 ≤ 16384) (p : Fin 1024) (o : Fin 128) :
    k0_pay71 (F := Ideal) v0 v1 v2 v3 v4 v5 v6 v7 v8 w b (ix2 p o)
      = layer v (stackedW rfl w) (fun o => b (ix2 0 o)) o ⟨(r + p) / 128, by omega⟩
          ⟨(r + p) % 128, Nat.mod_lt _ (by decide)⟩ := by
  unfold layer
  rw [← W.sum rfl (fun k => w (ix2 k o)) p hr]
  pointwise [k0_pay71]

/-- One chunk of the first result. -/
theorem pay72_at (W : Window v r v0 v1 v2 v3 v4 v5 v6 v7 v8) (hr : r + 1024 ≤ 16384) (o : Fin 80) (p : Fin 1024) :
    k0_pay72 (F := Ideal) (k0_pay71 v0 v1 v2 v3 v4 v5 v6 v7 v8 w b) wo bo (ix3 0 o p)
      = mix (layer v (stackedW rfl w) (fun o => b (ix2 0 o))) (fun o c => wo (ix2 c o)) (fun o => bo (ix2 0 o)) o
          ⟨(r + p) / 128, by omega⟩ ⟨(r + p) % 128, Nat.mod_lt _ (by decide)⟩ := by
  unfold mix
  simp only [← pay71_at W hr]
  pointwise [k0_pay72]
end

section
variable {v : Fin 64 → Fin 128 → Fin 128 → EReal} {w : Vec Ideal S576x64 .bf16} {b : Vec Ideal S1x64 .f32}
  {wo : Vec Ideal S64x8 .bf16} {bo : Vec Ideal S1x8 .f32}
  {r : ℕ} {v0 v1 v2 v3 v4 v5 v6 v7 v8 : Vec Ideal S1024x64 .bf16}

/-- One chunk of the second branch's second layer, before the cut at zero. -/
theorem pay73_at (W : Window v r v0 v1 v2 v3 v4 v5 v6 v7 v8) (hr : r + 1024 ≤ 16384) (p : Fin 1024) (o : Fin 64) :
    max (k0_pay73 (F := Ideal) v0 v1 v2 v3 v4 v5 v6 v7 v8 w b (ix2 p o)) 0
      = layer v (stackedW rfl w) (fun o => b (ix2 0 o)) o ⟨(r + p) / 128, by omega⟩
          ⟨(r + p) % 128, Nat.mod_lt _ (by decide)⟩ := by
  unfold layer
  rw [← W.sum rfl (fun k => w (ix2 k o)) p hr]
  pointwise [k0_pay73]

/-- One chunk of the second result. -/
theorem pay74_at (W : Window v r v0 v1 v2 v3 v4 v5 v6 v7 v8) (hr : r + 1024 ≤ 16384) (o : Fin 4) (p : Fin 1024) :
    k0_pay74 (F := Ideal) (k0_pay73 v0 v1 v2 v3 v4 v5 v6 v7 v8 w b) (FloatOps.ofBits .f32 0#32) wo bo (ix3 0 o p)
      = max (mix (layer v (stackedW rfl w) (fun o => b (ix2 0 o))) (fun (o : Fin 4) c => wo (ix2 c ⟨o, by omega⟩))
          (fun o => bo (ix2 0 ⟨o, by omega⟩)) o
          ⟨(r + p) / 128, by omega⟩ ⟨(r + p) % 128, Nat.mod_lt _ (by decide)⟩) 0
          * Ideal.ofBits .f32 1098907648#32 := by
  unfold mix
  simp only [← pay73_at W hr]
  pointwise [k0_pay74]
end

end Cert.KernelIdeal.Value

end
-- ==== Proof.Loads.lean ====
module

public import proofs.«01_k».proof.Proof.Args
public import proofs.«01_k».proof.Proof.Chunk

@[expose] public section

set_option maxRecDepth 16384

noncomputable section

/-! # Stores that are blocks of one array of rows, and loads of it

A buffer of 16640 rows is filled block by block. Where every stored block is a block of one array `S` of rows,
the buffer holds `S`, and a load of consecutive rows is those rows of `S`. -/

namespace Cert.KernelIdeal.Value

open Cert.KernelIdeal Cert.KernelIdeal.Gen Idealize.ShloMosaic Idealize.ShloMosaic.TcCoe Idealize.SL.Sem Cert.Spec

/-- What stores of blocks of `G` leave: `G`, at an index that a store covers and at one where `G` stood before. -/
theorem read_pieces {sig' : RefSig} {κ : Kind} {sp : Space} {s : Shape} {e : EltTy} (v : View sig' κ sp s e)
    (f : v.ty.Contents (Elt Ideal)) (G : s.Idx → Elt Ideal e) (y : s.Idx) :
    ∀ L : List (View.Piece (Elt Ideal) s e), View.PiecesOf G L →
      ((∃ p ∈ L, y ∈ p.1.set) ∨ v.read (Elt Ideal) f y = G y) →
      v.read (Elt Ideal) (v.writes (Elt Ideal) f L) y = G y
  | [], _, h => by
    rcases h with ⟨_, hm, _⟩ | h
    · exact absurd hm List.not_mem_nil
    · exact h
  | p :: L, hp, h => by
    by_cases hy : y ∈ p.1.set
    · obtain ⟨x, rfl⟩ : ∃ x, p.1.emb x = y := p.1.exists_idx_of_mem hy
      exact (View.read_writes_cons_emb v f p.1 p.2 L x).trans (hp.1 x)
    · have hy' : y ∉ Finset.univ.map p.1.emb := by rwa [Rect.map_emb_univ]
      rw [View.writes_cons, View.read_slice_write_of_not_mem p.1 _ _ _ hy']
      refine read_pieces v f G y L hp.2 (h.imp_left ?_)
      rintro ⟨q, hm, hq⟩
      rcases List.mem_cons.mp hm with rfl | hm
      · exact absurd hq hy
      · exact ⟨q, hm, hq⟩

section
variable {N C : ℕ} {e : EltTy}

/-- An array of rows as contents of a buffer. -/
def atRows (N : ℕ) (S : ℕ → Fin C → Elt Ideal e) : Shape.Idx ⟨2, ![N, C]⟩ → Elt Ideal e := fun y => S (y 0).val (y 1)

/-- A store of `M` rows is a block of the array where its rows are the array's rows. -/
theorem block_rows {S : ℕ → Fin C → Elt Ideal e} {M off : ℕ}
    (inb : ∀ a, (![off, 0] : Fin 2 → ℕ) a + (![M, C] : Fin 2 → ℕ) a ≤ (⟨2, ![N, C]⟩ : Shape).size a)
    {f : Shape.Idx ⟨2, ![M, C]⟩ → Elt Ideal e} (h : ∀ (p : Fin M) (c : Fin C), f (ix2 p c) = S (off + p) c) :
    ∀ x : (⟨2, ![M, C]⟩ : Shape).Idx,
      f x = atRows N S ((Rect.unit (s := ⟨2, ![N, C]⟩) ![off, 0] ![M, C] inb).emb x) := by
  intro x
  refine ((congrArg f (ix2_eta x).symm).trans (h (x 0) (x 1))).trans ?_
  unfold atRows
  congr 1
  · show off + (x 0).val = off + 1 * (x 0).val
    omega
  · refine Fin.ext ?_
    show (x 1).val = 0 + 1 * (x 1).val
    omega

/-- No store at all is blocks of anything. -/
theorem blocks_nil (G : Shape.Idx ⟨2, ![N, C]⟩ → Elt Ideal e) : View.PiecesOf G [] := trivial

/-- One more store of a block of rows. -/
theorem blocks_cons {S : ℕ → Fin C → Elt Ideal e} {M off : ℕ}
    {inb : ∀ a, (![off, 0] : Fin 2 → ℕ) a + (![M, C] : Fin 2 → ℕ) a ≤ (⟨2, ![N, C]⟩ : Shape).size a}
    {f : Shape.Idx ⟨2, ![M, C]⟩ → Elt Ideal e} {L : List (View.Piece (Elt Ideal) ⟨2, ![N, C]⟩ e)}
    (h : ∀ (p : Fin M) (c : Fin C), f (ix2 p c) = S (off + p) c) (hL : View.PiecesOf (atRows N S) L) :
    View.PiecesOf (atRows N S) (⟨Rect.unit (s := ⟨2, ![N, C]⟩) ![off, 0] ![M, C] inb, f⟩ :: L) :=
  ⟨block_rows inb h, hL⟩

/-- A row between a store's first and last is in the store's block. -/
theorem mem_rows {M off : ℕ} (inb : ∀ a, (![off, 0] : Fin 2 → ℕ) a + (![M, C] : Fin 2 → ℕ) a ≤ (⟨2, ![N, C]⟩ : Shape).size a)
    (q : Fin N) (c : Fin C) (h : off ≤ q.val) (h' : q.val < off + M) :
    ix2 q c ∈ (Rect.unit (s := ⟨2, ![N, C]⟩) ![off, 0] ![M, C] inb).set := by
  refine (LoadRect.mem_set _).mpr fun a => ?_
  match a with
  | 0 => exact ⟨q.val - off, by show q.val - off < M; omega, by show q.val = off + 1 * (q.val - off); omega⟩
  | 1 => exact ⟨c.val, c.isLt, by show c.val = 0 + 1 * c.val; omega⟩

/-- The rows from `lo` up to `hi` are covered by the stores of a list. -/
def CoveredRows (L : List (View.Piece (Elt Ideal) ⟨2, ![N, C]⟩ e)) (lo hi : ℕ) : Prop :=
  ∀ (q : Fin N) (c : Fin C), lo ≤ q.val → q.val < hi → ∃ p ∈ L, ix2 q c ∈ p.1.set

/-- No row lies between a number and itself. -/
theorem CoveredRows.none (L : List (View.Piece (Elt Ideal) ⟨2, ![N, C]⟩ e)) (lo : ℕ) : CoveredRows L lo lo :=
  fun q _ h h' => absurd h' (by omega)

/-- One more store on top covers its own rows too. -/
theorem CoveredRows.cons {M off : ℕ}
    {inb : ∀ a, (![off, 0] : Fin 2 → ℕ) a + (![M, C] : Fin 2 → ℕ) a ≤ (⟨2, ![N, C]⟩ : Shape).size a}
    {f : Shape.Idx ⟨2, ![M, C]⟩ → Elt Ideal e} {L : List (View.Piece (Elt Ideal) ⟨2, ![N, C]⟩ e)} {lo : ℕ}
    (h : CoveredRows L lo off) :
    CoveredRows (⟨Rect.unit (s := ⟨2, ![N, C]⟩) ![off, 0] ![M, C] inb, f⟩ :: L) lo (off + M) := by
  intro q c hl hh
  by_cases hq : q.val < off
  · obtain ⟨p, hp, hy⟩ := h q c hl hq
    exact ⟨p, List.mem_cons_of_mem _ hp, hy⟩
  · exact ⟨_, List.mem_cons_self, mem_rows inb q c (by omega) hh⟩

/-- Stores below another cover what they cover. -/
theorem CoveredRows.skip {p : View.Piece (Elt Ideal) ⟨2, ![N, C]⟩ e} {L : List (View.Piece (Elt Ideal) ⟨2, ![N, C]⟩ e)}
    {lo hi : ℕ} (h : CoveredRows L lo hi) : CoveredRows (p :: L) lo hi := fun q c hl hh => by
  obtain ⟨p', hp, hy⟩ := h q c hl hh
  exact ⟨p', List.mem_cons_of_mem _ hp, hy⟩

/-- Two neighbouring stretches of rows make one. -/
theorem CoveredRows.join {L : List (View.Piece (Elt Ideal) ⟨2, ![N, C]⟩ e)} {lo mid hi : ℕ}
    (h : CoveredRows L lo mid) (h' : CoveredRows L mid hi) : CoveredRows L lo hi := fun q c hl hh => by
  by_cases hq : q.val < mid
  · exact h q c hl hq
  · exact h' q c (by omega) hh

/-- A load of `M` rows from a buffer that holds `S` on the rows from `lo` up to `hi`. -/
theorem load_rows {sig' : RefSig} {κ : Kind} {sp : Space} {v : View sig' κ sp ⟨2, ![N, C]⟩ e}
    {f : v.ty.Contents (Elt Ideal)} {S : ℕ → Fin C → Elt Ideal e} {lo hi : ℕ}
    (H : ∀ (q : Fin N) (c : Fin C), lo ≤ q.val → q.val < hi → v.read (Elt Ideal) f (ix2 q c) = S q c) {M r : ℕ}
    {inb : ∀ a, (![r, 0] : Fin 2 → ℕ) a + (![M, C] : Fin 2 → ℕ) a ≤ (⟨2, ![N, C]⟩ : Shape).size a}
    (hl : Nat.ble lo r = true) (hh : Nat.ble (r + M) hi = true) (p : Fin M) (c : Fin C) :
    v.readAt (Elt Ideal) (Rect.unit (s := ⟨2, ![N, C]⟩) ![r, 0] ![M, C] inb).toLoadRect f (ix2 p c) = S (r + p) c := by
  have hl := Nat.le_of_ble_eq_true hl
  have hh := Nat.le_of_ble_eq_true hh
  have hb : r + M ≤ N := inb 0
  refine Eq.trans ?_ (H ⟨r + p, by omega⟩ c (by simp only; omega) (by simp only; omega))
  show v.read (Elt Ideal) f _ = _
  congr 1
  funext a
  refine Fin.ext ?_
  match a with
  | 0 => show r + 1 * p.val = r + p.val; omega
  | 1 => show 0 + 1 * c.val = c.val; omega

/-- A buffer of stores of blocks of `S`, at a covered row. -/
theorem read_rows {sig' : RefSig} {κ : Kind} {sp : Space} (v : View sig' κ sp ⟨2, ![N, C]⟩ e)
    (f : v.ty.Contents (Elt Ideal)) {S : ℕ → Fin C → Elt Ideal e}
    {L : List (View.Piece (Elt Ideal) ⟨2, ![N, C]⟩ e)} (hp : View.PiecesOf (atRows N S) L) {lo hi : ℕ}
    (hc : CoveredRows L lo hi) (q : Fin N) (c : Fin C) (hl : lo ≤ q.val) (hh : q.val < hi) :
    v.read (Elt Ideal) (v.writes (Elt Ideal) f L) (ix2 q c) = S q c :=
  read_pieces v f _ _ L hp (.inl (hc q c hl hh))

/-- A buffer whose last store fills it, whatever was stored before. -/
theorem read_top {sig' : RefSig} {κ : Kind} {sp : Space} (v : View sig' κ sp ⟨2, ![N, C]⟩ e)
    (f : v.ty.Contents (Elt Ideal)) {S : ℕ → Fin C → Elt Ideal e} {g : Shape.Idx ⟨2, ![N, C]⟩ → Elt Ideal e}
    {inb : ∀ a, (![0, 0] : Fin 2 → ℕ) a + (![N, C] : Fin 2 → ℕ) a ≤ (⟨2, ![N, C]⟩ : Shape).size a}
    {L : List (View.Piece (Elt Ideal) ⟨2, ![N, C]⟩ e)} (h : ∀ (q : Fin N) (c : Fin C), g (ix2 q c) = S q c)
    (q : Fin N) (c : Fin C) :
    v.read (Elt Ideal) (v.writes (Elt Ideal) f (⟨Rect.unit (s := ⟨2, ![N, C]⟩) ![0, 0] ![N, C] inb, g⟩ :: L)) (ix2 q c)
      = S q c := by
  rw [View.writes_cons]
  exact read_rows v _ (L := [⟨Rect.unit (s := ⟨2, ![N, C]⟩) ![0, 0] ![N, C] inb, g⟩])
    (blocks_cons (fun p c => by rw [Nat.zero_add]; exact h p c) (blocks_nil _)) (lo := 0) (.cons (.none _ 0)) q c
    (Nat.zero_le _) (by omega)

/-- A buffer of stores of blocks of `S` over contents that hold `S` on the rows not covered. -/
theorem read_rows_over {sig' : RefSig} {κ : Kind} {sp : Space} (v : View sig' κ sp ⟨2, ![N, C]⟩ e)
    (f : v.ty.Contents (Elt Ideal)) {S : ℕ → Fin C → Elt Ideal e}
    {L : List (View.Piece (Elt Ideal) ⟨2, ![N, C]⟩ e)} (hp : View.PiecesOf (atRows N S) L) {lo hi : ℕ}
    (hc : CoveredRows L lo hi)
    (hf : ∀ (q : Fin N) (c : Fin C), ¬(lo ≤ q.val ∧ q.val < hi) → v.read (Elt Ideal) f (ix2 q c) = S q c)
    (q : Fin N) (c : Fin C) :
    v.read (Elt Ideal) (v.writes (Elt Ideal) f L) (ix2 q c) = S q c := by
  refine read_pieces v f _ _ L hp ?_
  by_cases h : lo ≤ q.val ∧ q.val < hi
  · exact .inl (hc q c h.1 h.2)
  · exact .inr (hf q c h)

end

section
variable {O : ℕ}

/-- A channel-by-pixel array of images, as contents of one image's output block. -/
def atPix (T : Fin O → Fin 128 → Fin 128 → EReal) : Shape.Idx ⟨3, ![1, O, 16384]⟩ → Elt Ideal .f32 := fun y =>
  have h : (y 2).val < 16384 := (y 2).isLt
  T (y 1) ⟨(y 2).val / 128, by omega⟩ ⟨(y 2).val % 128, Nat.mod_lt _ (by decide)⟩

/-- One more store of a chunk of an output block. -/
theorem pix_cons {T : Fin O → Fin 128 → Fin 128 → EReal} {off : ℕ}
    {inb : ∀ a, (![0, 0, off] : Fin 3 → ℕ) a + (![1, O, 1024] : Fin 3 → ℕ) a ≤ (⟨3, ![1, O, 16384]⟩ : Shape).size a}
    {f : Shape.Idx ⟨3, ![1, O, 1024]⟩ → Elt Ideal .f32} {L : List (View.Piece (Elt Ideal) ⟨3, ![1, O, 16384]⟩ .f32)}
    (h : ∀ (hr : off + 1024 ≤ 16384) (o : Fin O) (p : Fin 1024), f (ix3 0 o p)
      = T o ⟨(off + p) / 128, by omega⟩ ⟨(off + p) % 128, Nat.mod_lt _ (by decide)⟩)
    (hL : View.PiecesOf (atPix T) L) :
    View.PiecesOf (atPix T) (⟨Rect.unit (s := ⟨3, ![1, O, 16384]⟩) ![0, 0, off] ![1, O, 1024] inb, f⟩ :: L) := by
  refine ⟨fun x => ?_, hL⟩
  have h0 : x = ix3 0 (x 1) (x 2) := by
    refine Eq.trans (ix3_eta x).symm ?_
    congr 1
    exact Subsingleton.elim (α := Fin 1) _ _
  refine ((congrArg f h0).trans (h (inb 2) (x 1) (x 2))).trans ?_
  have e1 : (x 1 : Fin O).val = 0 + 1 * (x 1).val := by omega
  have e2 : off + (x 2).val = off + 1 * (x 2).val := by omega
  unfold atPix
  congr 1
  · congr 1
    exact Fin.ext e1
  · exact Fin.ext (congrArg (· / 128) e2)
  · exact Fin.ext (congrArg (· % 128) e2)

end

end Cert.KernelIdeal.Value

end
-- ==== Proof.Shift.lean ====
module

public import proofs.«01_k».proof.Proof.Args
public import proofs.«01_k».proof.Proof.Rows

@[expose] public section

set_option maxRecDepth 16384

noncomputable section

/-! # The two shifted copies

The kernel rotates the array of rows by one row either way and masks the rows at the ends of the image's
lines. Read at a row, the copies are `leftRows` and `rightRows`. -/

namespace Cert.KernelIdeal.Value

open Cert.KernelIdeal Cert.KernelIdeal.Gen Idealize.ShloMosaic Idealize.ShloMosaic.TcCoe Idealize.SL.Sem Cert.Spec

/-- A rotation along the rows, read at an index. -/
theorem rotate_at {n : ℕ} (k : BitVec 32) (s : Shape.Idx ⟨2, ![16640, n]⟩ → EReal) (h : _) (q r : Fin 16640)
    (c : Fin n) (hr : (q.val + 16640 - k.toNat % 16640) % 16640 = r.val) :
    dynamicRotate (s := ⟨2, ![16640, n]⟩) 0 k none s h (ix2 q c) = s (ix2 r c) := by
  unfold dynamicRotate
  refine congrArg s (funext fun b => ?_)
  refine Fin.cases ?_ (fun b => ?_) b
  · exact Fin.ext hr
  · obtain rfl : b = 0 := Subsingleton.elim _ _
    rfl

/-- The low seven bits of a number are its remainder modulo 128. -/
theorem and_127 (q : ℕ) : IntOp.andi (BitVec.ofNat 32 q) 127#32 = BitVec.ofNat 32 (q % 128) := by
  unfold IntOp.andi
  apply BitVec.eq_of_toNat_eq
  rw [BitVec.toNat_and]
  simp only [BitVec.toNat_ofNat]
  rw [show (127 % 2 ^ 32 : ℕ) = 2 ^ 7 - 1 by decide, Nat.and_two_pow_sub_one_eq_mod]
  omega

/-- The signed order of two small words is the order of the numbers. -/
theorem slt_small (a b : ℕ) (ha : a < 2 ^ 31) (hb : b < 2 ^ 31) :
    (BitVec.ofNat 32 a).slt (BitVec.ofNat 32 b) = decide (a < b) := by
  rw [BitVec.slt_eq_decide, BitVec.toInt_eq_toNat_of_lt, BitVec.toInt_eq_toNat_of_lt]
  · simp only [BitVec.toNat_ofNat]
    rw [Nat.mod_eq_of_lt (by omega), Nat.mod_eq_of_lt (by omega)]
    simp
  · simp only [BitVec.toNat_ofNat]; omega
  · simp only [BitVec.toNat_ofNat]; omega

/-- … and so for "at most". -/
theorem sle_small (a b : ℕ) (ha : a < 2 ^ 31) (hb : b < 2 ^ 31) :
    (BitVec.ofNat 32 a).sle (BitVec.ofNat 32 b) = decide (a ≤ b) := by
  rw [BitVec.sle_eq_decide, BitVec.toInt_eq_toNat_of_lt, BitVec.toInt_eq_toNat_of_lt]
  · simp only [BitVec.toNat_ofNat]
    rw [Nat.mod_eq_of_lt (by omega), Nat.mod_eq_of_lt (by omega)]
    simp
  · simp only [BitVec.toNat_ofNat]; omega
  · simp only [BitVec.toNat_ofNat]; omega

/-- Two small words differ when the numbers do. -/
theorem bne_small (a b : ℕ) (ha : a < 2 ^ 32) (hb : b < 2 ^ 32) :
    (BitVec.ofNat 32 a != BitVec.ofNat 32 b) = decide (a ≠ b) := by
  by_cases h : a = b
  · subst h; simp
  · have : BitVec.ofNat 32 a ≠ BitVec.ofNat 32 b := by
      intro e
      have := congrArg BitVec.toNat e
      simp only [BitVec.toNat_ofNat] at this
      omega
    simp [h, this]

/-- A choice under the conjunction of two decided conditions. -/
theorem select_and (p q : Prop) [Decidable p] [Decidable q] (a b : EReal) :
    Scalar.select (IntOp.andi (BitVec.ofBool (decide p)) (BitVec.ofBool (decide q))) a b
      = if p ∧ q then a else b := by
  unfold Scalar.select IntOp.andi
  by_cases hp : p <;> by_cases hq : q <;> simp [hp, hq]

/-- The mask of the copy moved one way. -/
theorem left_mask (q : Fin 16640) (a b : EReal) :
    Scalar.select (IntOp.andi (IntOp.cmpi .ne (IntOp.andi (BitVec.ofNat 32 q) 127#32) 0#32)
        (IntOp.cmpi .slt (BitVec.ofNat 32 q) 16512#32)) a b
      = if q.val % 128 ≠ 0 ∧ q.val < 16512 then a else b := by
  rw [and_127]
  unfold IntOp.cmpi
  simp only
  rw [bne_small _ _ (by omega) (by omega), slt_small _ _ (by omega) (by omega), select_and]

/-- The mask of the copy moved the other way. -/
theorem right_mask (q : Fin 16640) (a b : EReal) :
    Scalar.select (IntOp.andi (IntOp.cmpi .ne (IntOp.andi (BitVec.ofNat 32 q) 127#32) 127#32)
        (IntOp.cmpi .sge (BitVec.ofNat 32 q) 128#32)) a b
      = if q.val % 128 ≠ 127 ∧ 128 ≤ q.val then a else b := by
  rw [and_127]
  unfold IntOp.cmpi
  simp only
  rw [bne_small _ _ (by omega) (by omega), sle_small _ _ (by omega) (by omega), select_and]

variable {n : ℕ}

/-- Rotating by one row and masking gives the left neighbours. -/
theorem left_at (v : Fin n → Fin 128 → Fin 128 → EReal) (s : Shape.Idx ⟨2, ![16640, n]⟩ → EReal)
    (hs : ∀ q c, s (ix2 q c) = rows v q c) (h : _) (q : Fin 16640) (c : Fin n) (z : EReal) (hz : z = 0)
    (k : BitVec 32) (hk : k = BitVec.ofNat 32 q) :
    Scalar.select (IntOp.andi (IntOp.cmpi .ne (IntOp.andi k 127#32) 0#32)
        (IntOp.cmpi .slt k 16512#32))
      (dynamicRotate (s := ⟨2, ![16640, n]⟩) 0 1#32 none s h (ix2 q c)) z = leftRows v q c := by
  rw [hk, left_mask, leftRows, hz]
  by_cases hc : q.val % 128 ≠ 0 ∧ q.val < 16512
  · rw [if_pos hc, if_pos hc, rotate_at 1#32 s h q ⟨q - 1, by omega⟩ c, hs]
    simp only [BitVec.toNat_ofNat]
    omega
  · rw [if_neg hc, if_neg hc]

/-- Rotating by one row the other way and masking gives the right neighbours. -/
theorem right_at (v : Fin n → Fin 128 → Fin 128 → EReal) (s : Shape.Idx ⟨2, ![16640, n]⟩ → EReal)
    (hs : ∀ q c, s (ix2 q c) = rows v q c) (h : _) (q : Fin 16640) (c : Fin n) (z : EReal) (hz : z = 0)
    (k : BitVec 32) (hk : k = BitVec.ofNat 32 q) :
    Scalar.select (IntOp.andi (IntOp.cmpi .ne (IntOp.andi k 127#32) 127#32)
        (IntOp.cmpi .sge k 128#32))
      (dynamicRotate (s := ⟨2, ![16640, n]⟩) 0 16639#32 none s h (ix2 q c)) z = rightRows v q c := by
  rw [hk, right_mask, rightRows, hz]
  by_cases hc : q.val % 128 ≠ 127 ∧ 128 ≤ q.val
  · rw [if_pos hc, if_pos hc, rotate_at 16639#32 s h q ⟨q + 1, by omega⟩ c, hs]
    simp only [BitVec.toNat_ofNat]
    omega
  · rw [if_neg hc, if_neg hc]

/-- The zero the masks put in. -/
theorem zero_bf16 : (FloatOps.ofBits .bf16 0x0000#16 : Ideal .bf16) = 0 := by
  pointwise

/-- A row's number as the kernel counts it, 64 channels wide. -/
theorem iota64_at (q : Fin 16640) (c : Fin 64) :
    iota .tc S16640x64 32 [0] iota_S16640x64_d0_w32 (ix2 q c) = BitVec.ofNat 32 q := by
  pointwise

/-- A row's number as the kernel counts it, 128 channels wide. -/
theorem iota128_at (q : Fin 16640) (c : Fin 128) :
    iota .tc S16640x128 32 [0] iota_S16640x128_d0_w32 (ix2 q c) = BitVec.ofNat 32 q := by
  pointwise

/-- The image's rows moved one way (`xsm`). -/
theorem pay8_at (v : Fin 64 → Fin 128 → Fin 128 → EReal) (s : Vec Ideal S16640x64 .bf16)
    (hs : ∀ q c, s (ix2 q c) = rows v q c) (q : Fin 16640) (c : Fin 64) :
    k0_pay8 (F := Ideal) s (ix2 q c) = leftRows v q c := by
  refine Eq.trans ?_ (left_at v s hs rotates_S16640x64_d0 q c _ zero_bf16 _ (iota64_at q c))
  unfold k0_pay8 k0_pay7
  simp only []
  rw [shapeCast_self]
  rfl

/-- The image's rows moved the other way (`xsp`). -/
theorem pay10_at (v : Fin 64 → Fin 128 → Fin 128 → EReal) (s : Vec Ideal S16640x64 .bf16)
    (hs : ∀ q c, s (ix2 q c) = rows v q c) (q : Fin 16640) (c : Fin 64) :
    k0_pay10 (F := Ideal) (k0_pay9 s) (ix2 q c) = rightRows v q c := by
  refine Eq.trans ?_ (right_at v s hs rotates_S16640x64_d0 q c _ zero_bf16 _ (iota64_at q c))
  unfold k0_pay10 k0_pay9 k0_pay7
  simp only []
  rw [shapeCast_self]
  rfl

/-- The first branch's rows moved one way (`hsm`). -/
theorem pay62_at (v : Fin 128 → Fin 128 → Fin 128 → EReal) (s : Vec Ideal S16640x128 .bf16)
    (hs : ∀ q c, s (ix2 q c) = rows v q c) (q : Fin 16640) (c : Fin 128) :
    k0_pay62 (F := Ideal) s (ix2 q c) = leftRows v q c := by
  refine Eq.trans ?_ (left_at v s hs rotates_S16640x128_d0 q c _ zero_bf16 _ (iota128_at q c))
  unfold k0_pay62 k0_pay61
  simp only []
  rw [shapeCast_self]
  rfl

/-- The first branch's rows moved the other way (`hsp`). -/
theorem pay63_at (v : Fin 128 → Fin 128 → Fin 128 → EReal) (s : Vec Ideal S16640x128 .bf16)
    (hs : ∀ q c, s (ix2 q c) = rows v q c) (q : Fin 16640) (c : Fin 128) :
    k0_pay63 (F := Ideal) s (iota .tc S16640x128 32 [0] iota_S16640x128_d0_w32) k0_pay61 127#32 (ix2 q c)
      = rightRows v q c := by
  refine Eq.trans ?_ (right_at v s hs rotates_S16640x128_d0 q c _ zero_bf16 _ (iota128_at q c))
  unfold k0_pay63 k0_pay61
  simp only []
  rw [shapeCast_self]
  rfl

/-- The second branch's rows moved one way (`gsm`). -/
theorem pay65_at (v : Fin 64 → Fin 128 → Fin 128 → EReal) (s : Vec Ideal S16640x64 .bf16)
    (hs : ∀ q c, s (ix2 q c) = rows v q c) (q : Fin 16640) (c : Fin 64) :
    k0_pay65 (F := Ideal) s (ix2 q c) = leftRows v q c := pay8_at v s hs q c

/-- The second branch's rows moved the other way (`gsp`). -/
theorem pay66_at (v : Fin 64 → Fin 128 → Fin 128 → EReal) (s : Vec Ideal S16640x64 .bf16)
    (hs : ∀ q c, s (ix2 q c) = rows v q c) (q : Fin 16640) (c : Fin 64) :
    k0_pay66 (F := Ideal) s (ix2 q c) = rightRows v q c := pay10_at v s hs q c

end Cert.KernelIdeal.Value

end
-- ==== Proof.FirstA.lean ====
module

public import proofs.«01_k».proof.Proof.Loads
public import proofs.«01_k».proof.Proof.Shift

@[expose] public section

set_option maxRecDepth 16384

noncomputable section

/-! # The first layers' rows, at the first point

The image's rows with the zero rows above and below, the two moved copies, and the sixteen chunks of each
branch's first layer, as the first point's run leaves them. -/

namespace Cert.KernelIdeal.Value

open Cert.KernelIdeal Cert.KernelIdeal.Gen Idealize.ShloMosaic Idealize.ShloMosaic.TcCoe Idealize.SL.Sem Cert.Spec

variable {c : Dev nD} (a : Args c)

/-- The image the run copies in, by channel and pixel. -/
def Args.img : Fin 64 → Fin 128 → Fin 128 → EReal := fun ch h w =>
  kernelRun0_A.sl.dma0 (F := Ideal) c a.i a.fh0 (ix2 ⟨128 * h + w, by omega⟩ ch)

/-- The first layers' weights as loaded. -/
abbrev Args.w1 : Vec Ideal S576x192 .bf16 :=
  View.readAt (Elt Ideal) a.arg2.view (Rect.unit ![0, 0] S576x192.size inb_S576x192_S576x192_0_0).toLoadRect (a.harg2.unread a.x0)

/-- The first layers' biases as loaded. -/
abbrev Args.b1 : Vec Ideal S1x192 .f32 :=
  View.readAt (Elt Ideal) a.arg3.view (Rect.unit ![0, 0] S1x192.size inb_S1x192_S1x192_0_0).toLoadRect (a.harg3.unread a.x1)

/-- The first branch's first layer on this image. -/
abbrev Args.hid : Fin 128 → Fin 128 → Fin 128 → EReal := firstH a.img a.w1 a.b1

/-- The second branch's first layer on this image. -/
abbrev Args.gid : Fin 64 → Fin 128 → Fin 128 → EReal := firstG a.img a.w1 a.b1

/-- The copied image is the array's rows from row 128 on. -/
theorem dma0_at (p : Fin 16384) (ch : Fin 64) :
    kernelRun0_A.sl.dma0 (F := Ideal) c a.i a.fh0 (ix2 p ch) = rows a.img (128 + p) ch := by
  rw [rows_pixel _ _ _ p.isLt]
  unfold Args.img
  congr 2
  refine Fin.ext ?_
  simp only
  omega

/-- The stores into the image's rows at the first point. -/
abbrev Args.L14A : List (View.Piece (Elt Ideal) S16640x64 .bf16) :=
  [⟨Rect.unit ![16512, 0] S128x64.size inb_S16640x64_S128x64_16512_0, k0_pay2 (F := Ideal)⟩,
    ⟨Rect.unit ![0, 0] S128x64.size inb_S16640x64_S128x64_0_0, k0_pay1 (F := Ideal)⟩,
    ⟨Rect.unit ![128, 0] S16384x64.size inb_S16640x64_S16384x64_128_0, kernelRun0_A.sl.dma0 (F := Ideal) c a.i a.fh0⟩]

/-- Every store into the image buffer is a block of the image's rows: the two pads are zero and the copy brings the pixels. -/
theorem own_A_pieces : View.PiecesOf (atRows (e := .bf16) 16640 (rows a.img)) a.L14A :=
  blocks_cons (fun p ch => by rw [rows_pad _ _ _ (by omega)]; pointwise [k0_pay2])
    (blocks_cons (fun p ch => by rw [rows_pad _ _ _ (by omega)]; pointwise [k0_pay1])
      (blocks_cons (dma0_at a) (blocks_nil _)))

/-- Those stores reach every row. -/
theorem own_A_covered : CoveredRows a.L14A 0 16640 :=
  ((CoveredRows.cons (.none _ _)).skip.join ((CoveredRows.cons (.none _ _)).skip.skip)).join (.cons (.none _ _))

/-- The image's rows, all of them. -/
theorem own_A (q : Fin 16640) (ch : Fin 64) (hl : 0 ≤ q.val) (hh : q.val < 16640) :
    a.arg14.view.read (Elt Ideal) (a.arg14.view.writes (Elt Ideal) a.arg14.view.junk a.L14A) (ix2 q ch) = rows a.img q ch :=
  read_rows _ _ (own_A_pieces a) (own_A_covered a) q ch hl hh

/-- The image buffer, read whole, holds the image's rows. -/
theorem v9_A (q : Fin 16640) (ch : Fin 64) : kernelRun0_A.sl.v9 (F := Ideal) c a.i a.arg14 a.fh0 (ix2 q ch) = rows a.img q ch :=
  (load_rows (own_A a) (r := 0) (by rfl) (by rfl) q ch).trans (by rw [Nat.zero_add])

/-- The copy a pixel meets its left neighbour in. -/
theorem left_A (q : Fin 16640) (ch : Fin 64) (hl : 0 ≤ q.val) (hh : q.val < 16640) :
    a.arg15.view.read (Elt Ideal) (a.arg15.view.writes (Elt Ideal) a.arg15.view.junk (kernelRun0_A.sl.HS1_1 (F := Ideal) c a.i a.arg14 a.fh0)) (ix2 q ch)
      = leftRows a.img q ch :=
by
  refine read_rows (S := leftRows a.img) _ _ (L := kernelRun0_A.sl.HS1_1 (F := Ideal) c a.i a.arg14 a.fh0)
    (blocks_cons (fun p ch => ?_) (blocks_nil _)) (.cons (.none _ 0)) q ch hl hh
  rw [Nat.zero_add]
  exact pay8_at _ _ (v9_A a) p ch

/-- The copy a pixel meets its right neighbour in. -/
theorem right_A (q : Fin 16640) (ch : Fin 64) (hl : 0 ≤ q.val) (hh : q.val < 16640) :
    a.arg16.view.read (Elt Ideal) (a.arg16.view.writes (Elt Ideal) a.arg16.view.junk (kernelRun0_A.sl.HS2_1 (F := Ideal) c a.i a.arg14 a.fh0)) (ix2 q ch)
      = rightRows a.img q ch :=
by
  refine read_rows (S := rightRows a.img) _ _ (L := kernelRun0_A.sl.HS2_1 (F := Ideal) c a.i a.arg14 a.fh0)
    (blocks_cons (fun p ch => ?_) (blocks_nil _)) (.cons (.none _ 0)) q ch hl hh
  rw [Nat.zero_add]
  exact pay10_at _ _ (v9_A a) p ch

/-- The stores of the first branch's first layer. -/
abbrev Args.L17A := kernelRun0_A.sl.HS3_18 (F := Ideal) c a.i a.arg2 a.harg2 a.arg3 a.harg3 a.arg14 a.arg15 a.arg16 a.x0 a.x1 a.fh0

/-- The stores of the second branch's first layer. -/
abbrev Args.L20A := kernelRun0_A.sl.HS6_18 (F := Ideal) c a.i a.arg2 a.harg2 a.arg3 a.harg3 a.arg14 a.arg15 a.arg16 a.x0 a.x1 a.fh0

/-- The two zero blocks at the ends of the first branch's buffer are pads of any rows. -/
theorem hid_A_pads (v : Fin 128 → Fin 128 → Fin 128 → EReal) : View.PiecesOf (atRows (e := .bf16) 16640 (rows v))
    [⟨Rect.unit ![16512, 0] S128x128.size inb_S16640x128_S128x128_16512_0, k0_pay4 (F := Ideal)⟩,
      ⟨Rect.unit ![0, 0] S128x128.size inb_S16640x128_S128x128_0_0, k0_pay3 (F := Ideal)⟩] :=
  blocks_cons (fun p ch => by rw [rows_pad _ _ _ (by omega)]; pointwise [k0_pay4])
    (blocks_cons (fun p ch => by rw [rows_pad _ _ _ (by omega)]; pointwise [k0_pay3]) (blocks_nil _))

set_option maxHeartbeats 2000000 in
/-- Every store of this layer is a block of its rows. -/
theorem hid_A_pieces : View.PiecesOf (atRows (e := .bf16) 16640 (rows a.hid)) a.L17A := by
  iterate 16 refine blocks_cons (pay12_at ⟨load_rows (left_A a) (by rfl) (by rfl), load_rows (left_A a) (by rfl) (by rfl),
    load_rows (left_A a) (by rfl) (by rfl), load_rows (own_A a) (by rfl) (by rfl), load_rows (own_A a) (by rfl) (by rfl),
    load_rows (own_A a) (by rfl) (by rfl), load_rows (right_A a) (by rfl) (by rfl), load_rows (right_A a) (by rfl) (by rfl),
    load_rows (right_A a) (by rfl) (by rfl)⟩ (by decide)) ?_
  exact hid_A_pads _

/-- The first branch's stores, pads and chunks, reach every row. -/
theorem hid_A_covered : CoveredRows a.L17A 0 16640 := by
  refine .join (mid := 128) ?_ (.join (mid := 16512) ?_ ?_)
  · iterate 17 refine .skip ?_
    exact .cons (.none _ _)
  · iterate 16 refine .cons ?_
    exact .none _ _
  · iterate 16 refine .skip ?_
    exact .cons (.none _ _)

/-- The first branch's rows, all of them. -/
theorem hid_A (q : Fin 16640) (ch : Fin 128) (hl : 0 ≤ q.val) (hh : q.val < 16640) :
    a.arg17.view.read (Elt Ideal) (a.arg17.view.writes (Elt Ideal) a.arg17.view.junk a.L17A) (ix2 q ch) = rows a.hid q ch :=
  read_rows _ _ (hid_A_pieces a) (hid_A_covered a) q ch hl hh

/-- The two zero blocks at the ends of the second branch's buffer are pads of any rows. -/
theorem gid_A_pads (v : Fin 64 → Fin 128 → Fin 128 → EReal) : View.PiecesOf (atRows (e := .bf16) 16640 (rows v))
    [⟨Rect.unit ![16512, 0] S128x64.size inb_S16640x64_S128x64_16512_0, k0_pay6 (F := Ideal)⟩,
      ⟨Rect.unit ![0, 0] S128x64.size inb_S16640x64_S128x64_0_0, k0_pay5 (F := Ideal)⟩] :=
  blocks_cons (fun p ch => by rw [rows_pad _ _ _ (by omega)]; pointwise [k0_pay6])
    (blocks_cons (fun p ch => by rw [rows_pad _ _ _ (by omega)]; pointwise [k0_pay5]) (blocks_nil _))

set_option maxHeartbeats 2000000 in
/-- Every store of this layer is a block of its rows. -/
theorem gid_A_pieces : View.PiecesOf (atRows (e := .bf16) 16640 (rows a.gid)) a.L20A := by
  iterate 16 refine blocks_cons (pay14_at ⟨load_rows (left_A a) (by rfl) (by rfl), load_rows (left_A a) (by rfl) (by rfl),
    load_rows (left_A a) (by rfl) (by rfl), load_rows (own_A a) (by rfl) (by rfl), load_rows (own_A a) (by rfl) (by rfl),
    load_rows (own_A a) (by rfl) (by rfl), load_rows (right_A a) (by rfl) (by rfl), load_rows (right_A a) (by rfl) (by rfl),
    load_rows (right_A a) (by rfl) (by rfl)⟩ (by decide)) ?_
  exact gid_A_pads _

/-- The second branch's stores, pads and chunks, reach every row. -/
theorem gid_A_covered : CoveredRows a.L20A 0 16640 := by
  refine .join (mid := 128) ?_ (.join (mid := 16512) ?_ ?_)
  · iterate 17 refine .skip ?_
    exact .cons (.none _ _)
  · iterate 16 refine .cons ?_
    exact .none _ _
  · iterate 16 refine .skip ?_
    exact .cons (.none _ _)

/-- The second branch's rows, all of them. -/
theorem gid_A (q : Fin 16640) (ch : Fin 64) (hl : 0 ≤ q.val) (hh : q.val < 16640) :
    a.arg20.view.read (Elt Ideal) (a.arg20.view.writes (Elt Ideal) a.arg20.view.junk a.L20A) (ix2 q ch) = rows a.gid q ch :=
  read_rows _ _ (gid_A_pieces a) (gid_A_covered a) q ch hl hh

end Cert.KernelIdeal.Value

end
-- ==== Proof.SecondA.lean ====
module

public import proofs.«01_k».proof.Proof.FirstA

@[expose] public section

set_option maxRecDepth 16384

noncomputable section

/-! # The two results' chunks, at the first point

The moved copies of the first layers' rows, and the sixteen chunks of each result. -/

namespace Cert.KernelIdeal.Value

open Cert.KernelIdeal Cert.KernelIdeal.Gen Idealize.ShloMosaic Idealize.ShloMosaic.TcCoe Idealize.SL.Sem Cert.Spec

variable {c : Dev nD} (a : Args c)

/-- The first branch's second layer: weights as loaded. -/
abbrev Args.w2 : Vec Ideal S1152x128 .bf16 :=
  View.readAt (Elt Ideal) a.arg4.view (Rect.unit ![0, 0] S1152x128.size inb_S1152x128_S1152x128_0_0).toLoadRect (a.harg4.unread a.x2)

/-- Its biases. -/
abbrev Args.b2 : Vec Ideal S1x128 .f32 :=
  View.readAt (Elt Ideal) a.arg5.view (Rect.unit ![0, 0] S1x128.size inb_S1x128_S1x128_0_0).toLoadRect (a.harg5.unread a.x3)

/-- The first result's weights as loaded. -/
abbrev Args.w3 : Vec Ideal S128x80 .bf16 :=
  View.readAt (Elt Ideal) a.arg6.view (Rect.unit ![0, 0] S128x80.size inb_S128x80_S128x80_0_0).toLoadRect (a.harg6.unread a.x4)

/-- Its biases. -/
abbrev Args.b3 : Vec Ideal S1x80 .f32 :=
  View.readAt (Elt Ideal) a.arg7.view (Rect.unit ![0, 0] S1x80.size inb_S1x80_S1x80_0_0).toLoadRect (a.harg7.unread a.x5)

/-- The second branch's second layer: weights as loaded. -/
abbrev Args.w4 : Vec Ideal S576x64 .bf16 :=
  View.readAt (Elt Ideal) a.arg8.view (Rect.unit ![0, 0] S576x64.size inb_S576x64_S576x64_0_0).toLoadRect (a.harg8.unread a.x6)

/-- Its biases. -/
abbrev Args.b4 : Vec Ideal S1x64 .f32 :=
  View.readAt (Elt Ideal) a.arg9.view (Rect.unit ![0, 0] S1x64.size inb_S1x64_S1x64_0_0).toLoadRect (a.harg9.unread a.x7)

/-- The second result's weights as loaded. -/
abbrev Args.w5 : Vec Ideal S64x8 .bf16 :=
  View.readAt (Elt Ideal) a.arg10.view (Rect.unit ![0, 0] S64x8.size inb_S64x8_S64x8_0_0).toLoadRect (a.harg10.unread a.x8)

/-- Its biases. -/
abbrev Args.b5 : Vec Ideal S1x8 .f32 :=
  View.readAt (Elt Ideal) a.arg11.view (Rect.unit ![0, 0] S1x8.size inb_S1x8_S1x8_0_0).toLoadRect (a.harg11.unread a.x9)

/-- The first result of one image, by channel and pixel, from the weights as loaded. -/
abbrev Args.cls : Fin 80 → Fin 128 → Fin 128 → EReal :=
  mix (layer a.hid (stackedW rfl a.w2) (fun o => a.b2 (ix2 0 o))) (fun o ch => a.w3 (ix2 ch o)) (fun o => a.b3 (ix2 0 o))

/-- The second result of one image, by channel and pixel, from the weights as loaded. -/
abbrev Args.size : Fin 4 → Fin 128 → Fin 128 → EReal := fun o h w =>
  max (mix (layer a.gid (stackedW rfl a.w4) (fun o => a.b4 (ix2 0 o))) (fun (o : Fin 4) ch => a.w5 (ix2 ch ⟨o, by omega⟩))
    (fun o => a.b5 (ix2 0 ⟨o, by omega⟩)) o h w) 0 * Ideal.ofBits .f32 1098907648#32

/-- The rows loaded whole, to be moved. -/
theorem v483_A (q : Fin 16640) (ch : Fin 128) :
    kernelRun0_A.sl.v483 (F := Ideal) c a.i a.arg2 a.harg2 a.arg3 a.harg3 a.arg14 a.arg15 a.arg16 a.arg17 a.x0 a.x1 a.fh0 (ix2 q ch) = rows a.hid q ch :=
  (load_rows (hid_A a) (r := 0) (by rfl) (by rfl) q ch).trans (by rw [Nat.zero_add])

/-- The copy a pixel meets its left neighbour in. -/
theorem hidLeft_A (q : Fin 16640) (ch : Fin 128) (hl : 0 ≤ q.val) (hh : q.val < 16640) :
    a.arg18.view.read (Elt Ideal) (a.arg18.view.writes (Elt Ideal) a.arg18.view.junk
      (kernelRun0_A.sl.HS4_1 (F := Ideal) c a.i a.arg2 a.harg2 a.arg3 a.harg3 a.arg14 a.arg15 a.arg16 a.arg17 a.x0 a.x1 a.fh0)) (ix2 q ch) = leftRows a.hid q ch := by
  refine read_top (e := .bf16) (S := leftRows a.hid) _ _ (fun p ch => ?_) q ch
  exact pay62_at _ _ (v483_A a) p ch

/-- The copy a pixel meets its right neighbour in. -/
theorem hidRight_A (q : Fin 16640) (ch : Fin 128) (hl : 0 ≤ q.val) (hh : q.val < 16640) :
    a.arg19.view.read (Elt Ideal) (a.arg19.view.writes (Elt Ideal) a.arg19.view.junk
      (kernelRun0_A.sl.HS5_1 (F := Ideal) c a.i a.arg2 a.harg2 a.arg3 a.harg3 a.arg14 a.arg15 a.arg16 a.arg17 a.x0 a.x1 a.fh0)) (ix2 q ch) = rightRows a.hid q ch := by
  refine read_top (e := .bf16) (S := rightRows a.hid) _ _ (fun p ch => ?_) q ch
  exact pay63_at _ _ (v483_A a) p ch

/-- The rows loaded whole, to be moved. -/
theorem v509_A (q : Fin 16640) (ch : Fin 64) :
    kernelRun0_A.sl.v509 (F := Ideal) c a.i a.arg2 a.harg2 a.arg3 a.harg3 a.arg14 a.arg15 a.arg16 a.arg20 a.x0 a.x1 a.fh0 (ix2 q ch) = rows a.gid q ch :=
  (load_rows (gid_A a) (r := 0) (by rfl) (by rfl) q ch).trans (by rw [Nat.zero_add])

/-- The copy a pixel meets its left neighbour in. -/
theorem gidLeft_A (q : Fin 16640) (ch : Fin 64) (hl : 0 ≤ q.val) (hh : q.val < 16640) :
    a.arg15.view.read (Elt Ideal) (a.arg15.view.writes (Elt Ideal) a.arg15.view.junk
      (kernelRun0_A.sl.HS1_2 (F := Ideal) c a.i a.arg2 a.harg2 a.arg3 a.harg3 a.arg14 a.arg15 a.arg16 a.arg20 a.x0 a.x1 a.fh0)) (ix2 q ch) = leftRows a.gid q ch := by
  refine read_top (e := .bf16) (S := leftRows a.gid) _ _ (fun p ch => ?_) q ch
  exact pay65_at _ _ (v509_A a) p ch

/-- The copy a pixel meets its right neighbour in. -/
theorem gidRight_A (q : Fin 16640) (ch : Fin 64) (hl : 0 ≤ q.val) (hh : q.val < 16640) :
    a.arg16.view.read (Elt Ideal) (a.arg16.view.writes (Elt Ideal) a.arg16.view.junk
      (kernelRun0_A.sl.HS2_2 (F := Ideal) c a.i a.arg2 a.harg2 a.arg3 a.harg3 a.arg14 a.arg15 a.arg16 a.arg20 a.x0 a.x1 a.fh0)) (ix2 q ch) = rightRows a.gid q ch := by
  refine read_top (e := .bf16) (S := rightRows a.gid) _ _ (fun p ch => ?_) q ch
  exact pay66_at _ _ (v509_A a) p ch

set_option maxHeartbeats 4000000 in
/-- Every store of this result is a chunk of it. -/
theorem cls_A_pieces (hc : cond0_0 a.i) : View.PiecesOf (atPix a.cls) (a.runA hc).1 := by
  unfold Args.runA kernelRun0_A
  dsimp only
  iterate 16 refine pix_cons (fun hr => pay72_at ⟨load_rows (hidLeft_A a) (by rfl) (by rfl), load_rows (hidLeft_A a) (by rfl) (by rfl),
    load_rows (hidLeft_A a) (by rfl) (by rfl), load_rows (hid_A a) (by rfl) (by rfl), load_rows (hid_A a) (by rfl) (by rfl),
    load_rows (hid_A a) (by rfl) (by rfl), load_rows (hidRight_A a) (by rfl) (by rfl), load_rows (hidRight_A a) (by rfl) (by rfl),
    load_rows (hidRight_A a) (by rfl) (by rfl)⟩ hr) ?_
  exact trivial

set_option maxHeartbeats 4000000 in
/-- Every store of this result is a chunk of it. -/
theorem size_A_pieces (hc : cond0_0 a.i) : View.PiecesOf (atPix a.size) (a.runA hc).2.1 := by
  unfold Args.runA kernelRun0_A
  dsimp only
  iterate 16 refine pix_cons (fun hr => pay74_at ⟨load_rows (gidLeft_A a) (by rfl) (by rfl), load_rows (gidLeft_A a) (by rfl) (by rfl),
    load_rows (gidLeft_A a) (by rfl) (by rfl), load_rows (gid_A a) (by rfl) (by rfl), load_rows (gid_A a) (by rfl) (by rfl),
    load_rows (gid_A a) (by rfl) (by rfl), load_rows (gidRight_A a) (by rfl) (by rfl), load_rows (gidRight_A a) (by rfl) (by rfl),
    load_rows (gidRight_A a) (by rfl) (by rfl)⟩ hr) ?_
  exact trivial

end Cert.KernelIdeal.Value

end
-- ==== Proof.FirstB.lean ====
module

public import proofs.«01_k».proof.Proof.SecondA

@[expose] public section

set_option maxRecDepth 16384

noncomputable section

/-! # The first layers' rows, at a later point

As at the first point, except that the zero rows above and below are the ones the point before left. -/

namespace Cert.KernelIdeal.Value

open Cert.KernelIdeal Cert.KernelIdeal.Gen Idealize.ShloMosaic Idealize.ShloMosaic.TcCoe Idealize.SL.Sem Cert.Spec

/-- A buffer of rows is zero above and below the pixels' rows. -/
def ZeroPads {C : ℕ} (x : Vec Ideal ⟨2, ![16640, C]⟩ .bf16) : Prop :=
  ∀ (q : Fin 16640) (ch : Fin C), ¬(128 ≤ q.val ∧ q.val < 16512) → x (ix2 q ch) = 0

variable {c : Dev nD} (a : Args c)

/-- The three buffers kept from point to point are zero above and below the pixels' rows. -/
structure Args.Padded : Prop where
  own : ZeroPads a.xs0
  hid : ZeroPads a.xs3
  gid : ZeroPads a.xs6

variable (h : a.Padded)

/-- Contents with zero rows above and below hold the rows of any image there. -/
theorem unread_pads {C : ℕ} {κ : Kind} {sp : Space} {m : Memref sig κ sp ⟨2, ![16640, C]⟩ .bf16} (hm : m.IsWhole)
    {x : Vec Ideal ⟨2, ![16640, C]⟩ .bf16} (hx : ZeroPads x) (v : Fin C → Fin 128 → Fin 128 → EReal)
    (q : Fin 16640) (ch : Fin C) (hq : ¬(128 ≤ q.val ∧ q.val < 16512)) :
    m.view.read (Elt Ideal) (hm.unread x) (ix2 q ch) = rows v q ch := by
  rw [hm.read_unread, rows_pad _ _ _ hq]
  exact hx q ch hq

/-- The store into the image's rows at a later point. -/
abbrev Args.L14B : List (View.Piece (Elt Ideal) S16640x64 .bf16) :=
  [⟨Rect.unit ![128, 0] S16384x64.size inb_S16640x64_S16384x64_128_0, kernelRun0_B.sl.dma0 (F := Ideal) c a.i a.fh0⟩]

/-- The one store into the image buffer at a later point, the copy, is a block of the image's rows. -/
theorem own_B_pieces : View.PiecesOf (atRows (e := .bf16) 16640 (rows a.img)) a.L14B :=
  blocks_cons (dma0_at a) (blocks_nil _)

include h in
/-- The image's rows, all of them. -/
theorem own_B (q : Fin 16640) (ch : Fin 64) (hl : 0 ≤ q.val) (hh : q.val < 16640) :
    a.arg14.view.read (Elt Ideal) (a.arg14.view.writes (Elt Ideal) (a.harg14.unread a.xs0) a.L14B) (ix2 q ch) = rows a.img q ch :=
  read_rows_over _ _ (own_B_pieces a) (CoveredRows.cons (.none _ _)) (unread_pads a.harg14 h.own _) q ch

include h in
/-- The image's rows that belong to pixels. -/
theorem own_B_mid (q : Fin 16640) (ch : Fin 64) (hl : 128 ≤ q.val) (hh : q.val < 16512) :
    a.arg14.view.read (Elt Ideal) (a.arg14.view.writes (Elt Ideal) a.arg14.view.junk a.L14B) (ix2 q ch) = rows a.img q ch :=
  read_rows _ _ (own_B_pieces a) (CoveredRows.cons (.none _ _)) q ch hl hh

include h in
/-- The rows loaded whole, to be moved. -/
theorem v9_B (q : Fin 16640) (ch : Fin 64) :
    kernelRun0_B.sl.v9 (F := Ideal) c a.i a.arg14 a.harg14 a.xs0 a.fh0 (ix2 q ch) = rows a.img q ch :=
  (load_rows (own_B a h) (r := 0) (by rfl) (by rfl) q ch).trans (by rw [Nat.zero_add])

include h in
/-- The copy a pixel meets its left neighbour in. -/
theorem left_B (q : Fin 16640) (ch : Fin 64) (hl : 0 ≤ q.val) (hh : q.val < 16640) :
    a.arg15.view.read (Elt Ideal) (a.arg15.view.writes (Elt Ideal) a.arg15.view.junk
      (kernelRun0_B.sl.HS1_1 (F := Ideal) c a.i a.arg14 a.harg14 a.xs0 a.fh0)) (ix2 q ch) = leftRows a.img q ch := by
  refine read_top (e := .bf16) (S := leftRows a.img) _ _ (fun p ch => ?_) q ch
  exact pay8_at _ _ (v9_B a h) p ch

include h in
/-- The copy a pixel meets its right neighbour in. -/
theorem right_B (q : Fin 16640) (ch : Fin 64) (hl : 0 ≤ q.val) (hh : q.val < 16640) :
    a.arg16.view.read (Elt Ideal) (a.arg16.view.writes (Elt Ideal) a.arg16.view.junk
      (kernelRun0_B.sl.HS2_1 (F := Ideal) c a.i a.arg14 a.harg14 a.xs0 a.fh0)) (ix2 q ch) = rightRows a.img q ch := by
  refine read_top (e := .bf16) (S := rightRows a.img) _ _ (fun p ch => ?_) q ch
  exact pay10_at _ _ (v9_B a h) p ch

/-- The stores of the first branch's first layer. -/
abbrev Args.L17B := kernelRun0_B.sl.HS3_16 (F := Ideal) c a.i a.arg2 a.harg2 a.arg3 a.harg3 a.arg14 a.harg14 a.arg15 a.arg16 a.x0 a.x1 a.xs0 a.fh0

set_option maxHeartbeats 2000000 in
include h in
/-- Every store of this layer is a block of its rows. -/
theorem hid_B_pieces : View.PiecesOf (atRows (e := .bf16) 16640 (rows a.hid)) a.L17B := by
  refine blocks_cons (pay12_at ⟨load_rows (left_B a h) (by rfl) (by rfl), load_rows (left_B a h) (by rfl) (by rfl),
    load_rows (left_B a h) (by rfl) (by rfl), load_rows (own_B_mid a h) (by rfl) (by rfl),
    load_rows (own_B_mid a h) (by rfl) (by rfl),
    load_rows (own_B a h) (by rfl) (by rfl),
    load_rows (right_B a h) (by rfl) (by rfl), load_rows (right_B a h) (by rfl) (by rfl),
    load_rows (right_B a h) (by rfl) (by rfl)⟩ (by decide)) ?_
  iterate 14 refine blocks_cons (pay12_at ⟨load_rows (left_B a h) (by rfl) (by rfl), load_rows (left_B a h) (by rfl) (by rfl),
    load_rows (left_B a h) (by rfl) (by rfl), load_rows (own_B_mid a h) (by rfl) (by rfl),
    load_rows (own_B_mid a h) (by rfl) (by rfl),
    load_rows (own_B_mid a h) (by rfl) (by rfl),
    load_rows (right_B a h) (by rfl) (by rfl), load_rows (right_B a h) (by rfl) (by rfl),
    load_rows (right_B a h) (by rfl) (by rfl)⟩ (by decide)) ?_
  refine blocks_cons (pay12_at ⟨load_rows (left_B a h) (by rfl) (by rfl), load_rows (left_B a h) (by rfl) (by rfl),
    load_rows (left_B a h) (by rfl) (by rfl), load_rows (own_B a h) (by rfl) (by rfl),
    load_rows (own_B_mid a h) (by rfl) (by rfl),
    load_rows (own_B_mid a h) (by rfl) (by rfl),
    load_rows (right_B a h) (by rfl) (by rfl), load_rows (right_B a h) (by rfl) (by rfl),
    load_rows (right_B a h) (by rfl) (by rfl)⟩ (by decide)) ?_
  exact blocks_nil _

/-- The first branch's chunks reach every row between the pads. -/
theorem hid_B_covered : CoveredRows a.L17B 128 16512 := by
  iterate 16 refine .cons ?_
  exact .none _ _

include h in
/-- The first branch's rows, all of them. -/
theorem hid_B (q : Fin 16640) (ch : Fin 128) (hl : 0 ≤ q.val) (hh : q.val < 16640) :
    a.arg17.view.read (Elt Ideal) (a.arg17.view.writes (Elt Ideal) (a.harg17.unread a.xs3) a.L17B) (ix2 q ch)
      = rows a.hid q ch :=
  read_rows_over _ _ (hid_B_pieces a h) (hid_B_covered a) (unread_pads a.harg17 h.hid _) q ch

include h in
/-- The first branch's rows that belong to pixels. -/
theorem hid_B_mid (q : Fin 16640) (ch : Fin 128) (hl : 128 ≤ q.val) (hh : q.val < 16512) :
    a.arg17.view.read (Elt Ideal) (a.arg17.view.writes (Elt Ideal) a.arg17.view.junk a.L17B) (ix2 q ch)
      = rows a.hid q ch :=
  read_rows _ _ (hid_B_pieces a h) (hid_B_covered a) q ch hl hh

/-- The stores of the second branch's first layer. -/
abbrev Args.L20B := kernelRun0_B.sl.HS6_16 (F := Ideal) c a.i a.arg2 a.harg2 a.arg3 a.harg3 a.arg14 a.harg14 a.arg15 a.arg16 a.x0 a.x1 a.xs0 a.fh0

set_option maxHeartbeats 2000000 in
include h in
/-- Every store of this layer is a block of its rows. -/
theorem gid_B_pieces : View.PiecesOf (atRows (e := .bf16) 16640 (rows a.gid)) a.L20B := by
  refine blocks_cons (pay14_at ⟨load_rows (left_B a h) (by rfl) (by rfl), load_rows (left_B a h) (by rfl) (by rfl),
    load_rows (left_B a h) (by rfl) (by rfl), load_rows (own_B_mid a h) (by rfl) (by rfl),
    load_rows (own_B_mid a h) (by rfl) (by rfl),
    load_rows (own_B a h) (by rfl) (by rfl),
    load_rows (right_B a h) (by rfl) (by rfl), load_rows (right_B a h) (by rfl) (by rfl),
    load_rows (right_B a h) (by rfl) (by rfl)⟩ (by decide)) ?_
  iterate 14 refine blocks_cons (pay14_at ⟨load_rows (left_B a h) (by rfl) (by rfl), load_rows (left_B a h) (by rfl) (by rfl),
    load_rows (left_B a h) (by rfl) (by rfl), load_rows (own_B_mid a h) (by rfl) (by rfl),
    load_rows (own_B_mid a h) (by rfl) (by rfl),
    load_rows (own_B_mid a h) (by rfl) (by rfl),
    load_rows (right_B a h) (by rfl) (by rfl), load_rows (right_B a h) (by rfl) (by rfl),
    load_rows (right_B a h) (by rfl) (by rfl)⟩ (by decide)) ?_
  refine blocks_cons (pay14_at ⟨load_rows (left_B a h) (by rfl) (by rfl), load_rows (left_B a h) (by rfl) (by rfl),
    load_rows (left_B a h) (by rfl) (by rfl), load_rows (own_B a h) (by rfl) (by rfl),
    load_rows (own_B_mid a h) (by rfl) (by rfl),
    load_rows (own_B_mid a h) (by rfl) (by rfl),
    load_rows (right_B a h) (by rfl) (by rfl), load_rows (right_B a h) (by rfl) (by rfl),
    load_rows (right_B a h) (by rfl) (by rfl)⟩ (by decide)) ?_
  exact blocks_nil _

/-- The second branch's chunks reach every row between the pads. -/
theorem gid_B_covered : CoveredRows a.L20B 128 16512 := by
  iterate 16 refine .cons ?_
  exact .none _ _

include h in
/-- The second branch's rows, all of them. -/
theorem gid_B (q : Fin 16640) (ch : Fin 64) (hl : 0 ≤ q.val) (hh : q.val < 16640) :
    a.arg20.view.read (Elt Ideal) (a.arg20.view.writes (Elt Ideal) (a.harg20.unread a.xs6) a.L20B) (ix2 q ch)
      = rows a.gid q ch :=
  read_rows_over _ _ (gid_B_pieces a h) (gid_B_covered a) (unread_pads a.harg20 h.gid _) q ch

include h in
/-- The second branch's rows that belong to pixels. -/
theorem gid_B_mid (q : Fin 16640) (ch : Fin 64) (hl : 128 ≤ q.val) (hh : q.val < 16512) :
    a.arg20.view.read (Elt Ideal) (a.arg20.view.writes (Elt Ideal) a.arg20.view.junk a.L20B) (ix2 q ch)
      = rows a.gid q ch :=
  read_rows _ _ (gid_B_pieces a h) (gid_B_covered a) q ch hl hh

end Cert.KernelIdeal.Value

end
-- ==== Proof.SecondB.lean ====
module

public import proofs.«01_k».proof.Proof.FirstB

@[expose] public section

set_option maxRecDepth 16384

noncomputable section

/-! # The two results' chunks, at a later point -/

namespace Cert.KernelIdeal.Value

open Cert.KernelIdeal Cert.KernelIdeal.Gen Idealize.ShloMosaic Idealize.ShloMosaic.TcCoe Idealize.SL.Sem Cert.Spec

variable {c : Dev nD} (a : Args c) (h : a.Padded)

include h in
/-- The rows loaded whole, to be moved. -/
theorem v483_B (q : Fin 16640) (ch : Fin 128) :
    kernelRun0_B.sl.v483 (F := Ideal) c a.i a.arg2 a.harg2 a.arg3 a.harg3 a.arg14 a.harg14 a.arg15 a.arg16 a.arg17 a.harg17 a.x0 a.x1 a.xs0 a.xs3 a.fh0 (ix2 q ch) = rows a.hid q ch :=
  (load_rows (hid_B a h) (r := 0) (by rfl) (by rfl) q ch).trans (by rw [Nat.zero_add])

include h in
/-- The copy a pixel meets its left neighbour in. -/
theorem hidLeft_B (q : Fin 16640) (ch : Fin 128) (hl : 0 ≤ q.val) (hh : q.val < 16640) :
    a.arg18.view.read (Elt Ideal) (a.arg18.view.writes (Elt Ideal) a.arg18.view.junk
      (kernelRun0_B.sl.HS4_1 (F := Ideal) c a.i a.arg2 a.harg2 a.arg3 a.harg3 a.arg14 a.harg14 a.arg15 a.arg16 a.arg17 a.harg17 a.x0 a.x1 a.xs0 a.xs3 a.fh0)) (ix2 q ch) = leftRows a.hid q ch := by
  refine read_top (e := .bf16) (S := leftRows a.hid) _ _ (fun p ch => ?_) q ch
  exact pay62_at _ _ (v483_B a h) p ch

include h in
/-- The copy a pixel meets its right neighbour in. -/
theorem hidRight_B (q : Fin 16640) (ch : Fin 128) (hl : 0 ≤ q.val) (hh : q.val < 16640) :
    a.arg19.view.read (Elt Ideal) (a.arg19.view.writes (Elt Ideal) a.arg19.view.junk
      (kernelRun0_B.sl.HS5_1 (F := Ideal) c a.i a.arg2 a.harg2 a.arg3 a.harg3 a.arg14 a.harg14 a.arg15 a.arg16 a.arg17 a.harg17 a.x0 a.x1 a.xs0 a.xs3 a.fh0)) (ix2 q ch) = rightRows a.hid q ch := by
  refine read_top (e := .bf16) (S := rightRows a.hid) _ _ (fun p ch => ?_) q ch
  exact pay63_at _ _ (v483_B a h) p ch

include h in
/-- The rows loaded whole, to be moved. -/
theorem v509_B (q : Fin 16640) (ch : Fin 64) :
    kernelRun0_B.sl.v509 (F := Ideal) c a.i a.arg2 a.harg2 a.arg3 a.harg3 a.arg14 a.harg14 a.arg15 a.arg16 a.arg20 a.harg20 a.x0 a.x1 a.xs0 a.xs6 a.fh0 (ix2 q ch) = rows a.gid q ch :=
  (load_rows (gid_B a h) (r := 0) (by rfl) (by rfl) q ch).trans (by rw [Nat.zero_add])

include h in
/-- The copy a pixel meets its left neighbour in. -/
theorem gidLeft_B (q : Fin 16640) (ch : Fin 64) (hl : 0 ≤ q.val) (hh : q.val < 16640) :
    a.arg15.view.read (Elt Ideal) (a.arg15.view.writes (Elt Ideal) a.arg15.view.junk
      (kernelRun0_B.sl.HS1_2 (F := Ideal) c a.i a.arg2 a.harg2 a.arg3 a.harg3 a.arg14 a.harg14 a.arg15 a.arg16 a.arg20 a.harg20 a.x0 a.x1 a.xs0 a.xs6 a.fh0)) (ix2 q ch) = leftRows a.gid q ch := by
  refine read_top (e := .bf16) (S := leftRows a.gid) _ _ (fun p ch => ?_) q ch
  exact pay65_at _ _ (v509_B a h) p ch

include h in
/-- The copy a pixel meets its right neighbour in. -/
theorem gidRight_B (q : Fin 16640) (ch : Fin 64) (hl : 0 ≤ q.val) (hh : q.val < 16640) :
    a.arg16.view.read (Elt Ideal) (a.arg16.view.writes (Elt Ideal) a.arg16.view.junk
      (kernelRun0_B.sl.HS2_2 (F := Ideal) c a.i a.arg2 a.harg2 a.arg3 a.harg3 a.arg14 a.harg14 a.arg15 a.arg16 a.arg20 a.harg20 a.x0 a.x1 a.xs0 a.xs6 a.fh0)) (ix2 q ch) = rightRows a.gid q ch := by
  refine read_top (e := .bf16) (S := rightRows a.gid) _ _ (fun p ch => ?_) q ch
  exact pay66_at _ _ (v509_B a h) p ch

set_option maxHeartbeats 4000000 in
include h in
/-- Every store of this result is a chunk of it. -/
theorem cls_B_pieces (hc : ¬cond0_0 a.i) : View.PiecesOf (atPix a.cls) (a.runB hc).1 := by
  unfold Args.runB kernelRun0_B
  dsimp only
  refine pix_cons (fun hr => pay72_at ⟨load_rows (hidLeft_B a h) (by rfl) (by rfl), load_rows (hidLeft_B a h) (by rfl) (by rfl),
    load_rows (hidLeft_B a h) (by rfl) (by rfl), load_rows (hid_B_mid a h) (by rfl) (by rfl),
    load_rows (hid_B_mid a h) (by rfl) (by rfl),
    load_rows (hid_B a h) (by rfl) (by rfl),
    load_rows (hidRight_B a h) (by rfl) (by rfl), load_rows (hidRight_B a h) (by rfl) (by rfl),
    load_rows (hidRight_B a h) (by rfl) (by rfl)⟩ hr) ?_
  iterate 14 refine pix_cons (fun hr => pay72_at ⟨load_rows (hidLeft_B a h) (by rfl) (by rfl), load_rows (hidLeft_B a h) (by rfl) (by rfl),
    load_rows (hidLeft_B a h) (by rfl) (by rfl), load_rows (hid_B_mid a h) (by rfl) (by rfl),
    load_rows (hid_B_mid a h) (by rfl) (by rfl),
    load_rows (hid_B_mid a h) (by rfl) (by rfl),
    load_rows (hidRight_B a h) (by rfl) (by rfl), load_rows (hidRight_B a h) (by rfl) (by rfl),
    load_rows (hidRight_B a h) (by rfl) (by rfl)⟩ hr) ?_
  refine pix_cons (fun hr => pay72_at ⟨load_rows (hidLeft_B a h) (by rfl) (by rfl), load_rows (hidLeft_B a h) (by rfl) (by rfl),
    load_rows (hidLeft_B a h) (by rfl) (by rfl), load_rows (hid_B a h) (by rfl) (by rfl),
    load_rows (hid_B_mid a h) (by rfl) (by rfl),
    load_rows (hid_B_mid a h) (by rfl) (by rfl),
    load_rows (hidRight_B a h) (by rfl) (by rfl), load_rows (hidRight_B a h) (by rfl) (by rfl),
    load_rows (hidRight_B a h) (by rfl) (by rfl)⟩ hr) ?_
  exact trivial

set_option maxHeartbeats 4000000 in
include h in
/-- Every store of this result is a chunk of it. -/
theorem size_B_pieces (hc : ¬cond0_0 a.i) : View.PiecesOf (atPix a.size) (a.runB hc).2.1 := by
  unfold Args.runB kernelRun0_B
  dsimp only
  refine pix_cons (fun hr => pay74_at ⟨load_rows (gidLeft_B a h) (by rfl) (by rfl), load_rows (gidLeft_B a h) (by rfl) (by rfl),
    load_rows (gidLeft_B a h) (by rfl) (by rfl), load_rows (gid_B_mid a h) (by rfl) (by rfl),
    load_rows (gid_B_mid a h) (by rfl) (by rfl),
    load_rows (gid_B a h) (by rfl) (by rfl),
    load_rows (gidRight_B a h) (by rfl) (by rfl), load_rows (gidRight_B a h) (by rfl) (by rfl),
    load_rows (gidRight_B a h) (by rfl) (by rfl)⟩ hr) ?_
  iterate 14 refine pix_cons (fun hr => pay74_at ⟨load_rows (gidLeft_B a h) (by rfl) (by rfl), load_rows (gidLeft_B a h) (by rfl) (by rfl),
    load_rows (gidLeft_B a h) (by rfl) (by rfl), load_rows (gid_B_mid a h) (by rfl) (by rfl),
    load_rows (gid_B_mid a h) (by rfl) (by rfl),
    load_rows (gid_B_mid a h) (by rfl) (by rfl),
    load_rows (gidRight_B a h) (by rfl) (by rfl), load_rows (gidRight_B a h) (by rfl) (by rfl),
    load_rows (gidRight_B a h) (by rfl) (by rfl)⟩ hr) ?_
  refine pix_cons (fun hr => pay74_at ⟨load_rows (gidLeft_B a h) (by rfl) (by rfl), load_rows (gidLeft_B a h) (by rfl) (by rfl),
    load_rows (gidLeft_B a h) (by rfl) (by rfl), load_rows (gid_B a h) (by rfl) (by rfl),
    load_rows (gid_B_mid a h) (by rfl) (by rfl),
    load_rows (gid_B_mid a h) (by rfl) (by rfl),
    load_rows (gidRight_B a h) (by rfl) (by rfl), load_rows (gidRight_B a h) (by rfl) (by rfl),
    load_rows (gidRight_B a h) (by rfl) (by rfl)⟩ hr) ?_
  exact trivial

end Cert.KernelIdeal.Value

end
-- ==== Proof.Points.lean ====
module

public import proofs.«01_k».proof.Proof.SecondB

@[expose] public section

set_option maxRecDepth 16384

noncomputable section

/-! # What every point leaves

By induction on the point: the rows above and below the pixels stay zero in the three buffers kept from point to
point, so each point's output blocks hold the two results of its image. -/

namespace Cert.KernelIdeal.Value

open Cert.KernelIdeal Cert.KernelIdeal.Gen Idealize.ShloMosaic Idealize.ShloMosaic.TcCoe Idealize.SL.Sem Cert.Spec

section
variable {c : Dev nD} (a : Args c) (h : a.Padded)
  {sig' : RefSig} {κ : Kind} {sp : Space}

/-- The first result's block, as the body leaves it. -/
theorem cls_A (hc : cond0_0 a.i) (v : View sig' κ sp S1x80x16384 .f32) (f : v.ty.Contents (Elt Ideal)) :
    v.read (Elt Ideal) (v.writes (Elt Ideal) f (a.runA hc).1) = atPix a.cls :=
  funext fun y => read_pieces v f _ y _ (cls_A_pieces a hc)
    (.inl (cover0_A_10 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.fh0 y))

include h in
/-- The first result's block, as the body leaves it. -/
theorem cls_B (hc : ¬cond0_0 a.i) (v : View sig' κ sp S1x80x16384 .f32) (f : v.ty.Contents (Elt Ideal)) :
    v.read (Elt Ideal) (v.writes (Elt Ideal) f (a.runB hc).1) = atPix a.cls :=
  funext fun y => read_pieces v f _ y _ (cls_B_pieces a h hc)
    (.inl (cover0_B_10 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.xs0 a.xs3 a.xs6 a.fh0 y))

/-- The second result's block, as the body leaves it. -/
theorem size_A (hc : cond0_0 a.i) (v : View sig' κ sp S1x4x16384 .f32) (f : v.ty.Contents (Elt Ideal)) :
    v.read (Elt Ideal) (v.writes (Elt Ideal) f (a.runA hc).2.1) = atPix a.size :=
  funext fun y => read_pieces v f _ y _ (size_A_pieces a hc)
    (.inl (cover0_A_11 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.fh0 y))

include h in
/-- The second result's block, as the body leaves it. -/
theorem size_B (hc : ¬cond0_0 a.i) (v : View sig' κ sp S1x4x16384 .f32) (f : v.ty.Contents (Elt Ideal)) :
    v.read (Elt Ideal) (v.writes (Elt Ideal) f (a.runB hc).2.1) = atPix a.size :=
  funext fun y => read_pieces v f _ y _ (size_B_pieces a h hc)
    (.inl (cover0_B_11 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.xs0 a.xs3 a.xs6 a.fh0 y))

/-- The image's rows keep their zero rows: at the first point … -/
theorem own_A_zero (hc : cond0_0 a.i) (v : View sig' κ sp S16640x64 .bf16) (f : v.ty.Contents (Elt Ideal)) :
    ZeroPads (v.read (Elt Ideal) (v.writes (Elt Ideal) f (a.runA hc).2.2.1)) := fun q ch hq =>
  (read_rows v f (own_A_pieces a) (own_A_covered a) q ch (Nat.zero_le _) q.isLt).trans (rows_pad _ _ _ hq)

include h in
/-- … and at a later one. -/
theorem own_B_zero (hc : ¬cond0_0 a.i) :
    ZeroPads (a.arg14.view.read (Elt Ideal) (a.arg14.view.writes (Elt Ideal)
      (a.harg14.unread a.xs0) (a.runB hc).2.2.1)) := fun q ch hq =>
  (own_B a h q ch (Nat.zero_le _) q.isLt).trans (rows_pad _ _ _ hq)

/-- The first branch's rows keep their zero rows: at the first point … -/
theorem hid_A_zero (hc : cond0_0 a.i) (v : View sig' κ sp S16640x128 .bf16) (f : v.ty.Contents (Elt Ideal)) :
    ZeroPads (v.read (Elt Ideal) (v.writes (Elt Ideal) f (a.runA hc).2.2.2.1)) := fun q ch hq =>
  (read_rows v f (hid_A_pieces a) (hid_A_covered a) q ch (Nat.zero_le _) q.isLt).trans (rows_pad _ _ _ hq)

include h in
/-- … and at a later one. -/
theorem hid_B_zero (hc : ¬cond0_0 a.i) :
    ZeroPads (a.arg17.view.read (Elt Ideal) (a.arg17.view.writes (Elt Ideal)
      (a.harg17.unread a.xs3) (a.runB hc).2.2.2.1)) := fun q ch hq =>
  (hid_B a h q ch (Nat.zero_le _) q.isLt).trans (rows_pad _ _ _ hq)

/-- The second branch's rows keep their zero rows: at the first point … -/
theorem gid_A_zero (hc : cond0_0 a.i) (v : View sig' κ sp S16640x64 .bf16) (f : v.ty.Contents (Elt Ideal)) :
    ZeroPads (v.read (Elt Ideal) (v.writes (Elt Ideal) f (a.runA hc).2.2.2.2.1)) := fun q ch hq =>
  (read_rows v f (gid_A_pieces a) (gid_A_covered a) q ch (Nat.zero_le _) q.isLt).trans (rows_pad _ _ _ hq)

include h in
/-- … and at a later one. -/
theorem gid_B_zero (hc : ¬cond0_0 a.i) :
    ZeroPads (a.arg20.view.read (Elt Ideal) (a.arg20.view.writes (Elt Ideal)
      (a.harg20.unread a.xs6) (a.runB hc).2.2.2.2.1)) := fun q ch hq =>
  (gid_B a h q ch (Nat.zero_le _) q.isLt).trans (rows_pad _ _ _ hq)

/-- After the first point the class block holds the scores. -/
theorem out_cls_A (hc : cond0_0 a.i) :
    out0_A_10 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.fh0 = atPix a.cls := cls_A a hc VO0_10 _

/-- After the first point the size block holds the sizes. -/
theorem out_size_A (hc : cond0_0 a.i) :
    out0_A_11 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.fh0 = atPix a.size := size_A a hc VO0_11 _

/-- After the first point the image buffer keeps its zero pads. -/
theorem out_own_A (hc : cond0_0 a.i) :
    ZeroPads (sout0_A_0 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.fh0) := own_A_zero a hc VS0_0 _

/-- After the first point the first branch's buffer keeps its zero pads. -/
theorem out_hid_A (hc : cond0_0 a.i) :
    ZeroPads (sout0_A_3 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.fh0) := hid_A_zero a hc VS0_3 _

/-- After the first point the second branch's buffer keeps its zero pads. -/
theorem out_gid_A (hc : cond0_0 a.i) :
    ZeroPads (sout0_A_6 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.fh0) := gid_A_zero a hc VS0_6 _

include h in
/-- After a later point the class block holds the scores. -/
theorem out_cls_B (hc : ¬cond0_0 a.i) :
    out0_B_10 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.xs0 a.xs3 a.xs6 a.fh0 = atPix a.cls := cls_B a h hc VO0_10 _

include h in
/-- After a later point the size block holds the sizes. -/
theorem out_size_B (hc : ¬cond0_0 a.i) :
    out0_B_11 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.xs0 a.xs3 a.xs6 a.fh0 = atPix a.size := size_B a h hc VO0_11 _

include h in
/-- After a later point the image buffer keeps its zero pads. -/
theorem out_own_B (hc : ¬cond0_0 a.i) :
    ZeroPads (sout0_B_0 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.xs0 a.xs3 a.xs6 a.fh0) := own_B_zero a h hc

include h in
/-- After a later point the first branch's buffer keeps its zero pads. -/
theorem out_hid_B (hc : ¬cond0_0 a.i) :
    ZeroPads (sout0_B_3 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.xs0 a.xs3 a.xs6 a.fh0) := hid_B_zero a h hc

include h in
/-- After a later point the second branch's buffer keeps its zero pads. -/
theorem out_gid_B (hc : ¬cond0_0 a.i) :
    ZeroPads (sout0_B_6 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.xs0 a.xs3 a.xs6 a.fh0) := gid_B_zero a h hc

attribute [local irreducible] out0_A_10 out0_A_11 sout0_A_0 sout0_A_3 sout0_A_6 out0_B_10 out0_B_11 sout0_B_0 sout0_B_3 sout0_B_6

/-- Everything a run at a first point leaves: the two output blocks and the three kept buffers. -/
def Args.outsA (hc : cond0_0 a.i) : Vec Ideal S1x80x16384 .f32 × Vec Ideal S1x4x16384 .f32 × Vec Ideal S16640x64 .bf16
    × Vec Ideal S16640x128 .bf16 × Vec Ideal S16640x64 .bf16 :=
  (out0_A_10 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.fh0,
    out0_A_11 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.fh0,
    sout0_A_0 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.fh0,
    sout0_A_3 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.fh0,
    sout0_A_6 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.fh0)

set_option maxHeartbeats 1000000 in
/-- The three buffers that the first point leaves to the next one have zero pads. -/
theorem kept_A (hc : cond0_0 a.i) : ZeroPads (a.outsA hc).2.2.1 ∧ ZeroPads (a.outsA hc).2.2.2.1 ∧ ZeroPads (a.outsA hc).2.2.2.2 :=
  ⟨out_own_A a hc, out_hid_A a hc, out_gid_A a hc⟩

set_option maxHeartbeats 1000000 in
/-- The two blocks that the first point leaves hold the scores and the sizes. -/
theorem results_A (hc : cond0_0 a.i) : (a.outsA hc).1 = atPix a.cls ∧ (a.outsA hc).2.1 = atPix a.size :=
  ⟨out_cls_A a hc, out_size_A a hc⟩

/-- Everything a run at a later point leaves: the two output blocks and the three kept buffers. -/
def Args.outsB (hc : ¬cond0_0 a.i) : Vec Ideal S1x80x16384 .f32 × Vec Ideal S1x4x16384 .f32 × Vec Ideal S16640x64 .bf16
    × Vec Ideal S16640x128 .bf16 × Vec Ideal S16640x64 .bf16 :=
  (out0_B_10 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.xs0 a.xs3 a.xs6 a.fh0,
    out0_B_11 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.xs0 a.xs3 a.xs6 a.fh0,
    sout0_B_0 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.xs0 a.xs3 a.xs6 a.fh0,
    sout0_B_3 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.xs0 a.xs3 a.xs6 a.fh0,
    sout0_B_6 (F := Ideal) c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 hc a.x0 a.x1 a.x2 a.x3 a.x4 a.x5 a.x6 a.x7 a.x8 a.x9 a.xs0 a.xs3 a.xs6 a.fh0)

set_option maxHeartbeats 1000000 in
include h in
/-- The three buffers that a later point leaves to the next one have zero pads. -/
theorem kept_B (hc : ¬cond0_0 a.i) : ZeroPads (a.outsB hc).2.2.1 ∧ ZeroPads (a.outsB hc).2.2.2.1 ∧ ZeroPads (a.outsB hc).2.2.2.2 :=
  ⟨out_own_B a h hc, out_hid_B a h hc, out_gid_B a h hc⟩

set_option maxHeartbeats 1000000 in
include h in
/-- The two blocks that a later point leaves hold the scores and the sizes. -/
theorem results_B (hc : ¬cond0_0 a.i) : (a.outsB hc).1 = atPix a.cls ∧ (a.outsB hc).2.1 = atPix a.size :=
  ⟨out_cls_B a h hc, out_size_B a h hc⟩

end

variable (m : (l : Loc nD τ sig) → Buf (Elt Ideal) l) (c : Dev nD)

/-- What the body's run at a point is given. -/
def point (t : Fin cfg0.N) : Args c where
  i := grid0.coords t
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := ms0_7 t
  harg9 := hs0_7 t
  arg10 := ms0_8 t
  harg10 := hs0_8 t
  arg11 := ms0_9 t
  harg11 := hs0_9 t
  arg12 := ms0_10 t
  harg12 := hs0_10 t
  arg13 := ms0_11 t
  harg13 := hs0_11 t
  arg14 := scM0_0
  harg14 := Memref.isWhole_whole _
  arg15 := scM0_1
  harg15 := Memref.isWhole_whole _
  arg16 := scM0_2
  harg16 := Memref.isWhole_whole _
  arg17 := scM0_3
  harg17 := Memref.isWhole_whole _
  arg18 := scM0_4
  harg18 := Memref.isWhole_whole _
  arg19 := scM0_5
  harg19 := Memref.isWhole_whole _
  arg20 := scM0_6
  harg20 := Memref.isWhole_whole _
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  xs0 := (outsAt0 m c (t.val - 1) (Nat.lt_of_le_of_lt (Nat.sub_le _ _) t.isLt)).2.2.1
  xs3 := (outsAt0 m c (t.val - 1) (Nat.lt_of_le_of_lt (Nat.sub_le _ _) t.isLt)).2.2.2.1
  xs6 := (outsAt0 m c (t.val - 1) (Nat.lt_of_le_of_lt (Nat.sub_le _ _) t.isLt)).2.2.2.2
  fh0 := V m c main_v2

attribute [local irreducible] outsAt0

/-- The generated contents after a first point, as the results of the point's own arguments. -/
theorem outsAt_A (t : Fin cfg0.N) (h0 : t.val % 8 = 0) :
    outsAt0 m c t.val t.isLt = (point m c t).outsA ((hcond0_0 t).mpr h0) := by
  refine (outsAt0_A m c t h0).trans ?_
  unfold Args.outsA
  refine Prod.ext ?_ (Prod.ext ?_ (Prod.ext ?_ (Prod.ext ?_ ?_)))
  all_goals
    dsimp only
    unfold point
    with_reducible rfl

/-- The generated contents after a later point, as the results of the point's own arguments. -/
theorem outsAt_B (t : Fin cfg0.N) (h0 : ¬t.val % 8 = 0) :
    outsAt0 m c t.val t.isLt = (point m c t).outsB (fun h => h0 ((hcond0_0 t).mp h)) := by
  refine (outsAt0_B m c t h0).trans ?_
  unfold Args.outsB
  refine Prod.ext ?_ (Prod.ext ?_ (Prod.ext ?_ (Prod.ext ?_ ?_)))
  all_goals
    dsimp only
    unfold point
    with_reducible rfl

/-- The three kept buffers are zero above and below the pixels' rows. -/
def Kept (r : Vec Ideal S1x80x16384 .f32 × Vec Ideal S1x4x16384 .f32 × Vec Ideal S16640x64 .bf16
    × Vec Ideal S16640x128 .bf16 × Vec Ideal S16640x64 .bf16) : Prop :=
  ZeroPads r.2.2.1 ∧ ZeroPads r.2.2.2.1 ∧ ZeroPads r.2.2.2.2

/-- They are after every point. -/
theorem zero_after (n : ℕ) (hn : n < cfg0.N) : Kept (outsAt0 m c n hn) := by
  induction n with
  | zero =>
    refine (congrArg Kept (outsAt_A m c ⟨0, hn⟩ rfl)).mpr ?_
    exact kept_A _ _
  | succ n ih =>
    have h0 : ¬(⟨n + 1, hn⟩ : Fin cfg0.N).val % 8 = 0 := by
      have : n + 1 < 8 := hn
      show ¬(n + 1) % 8 = 0
      omega
    refine (congrArg Kept (outsAt_B m c ⟨n + 1, hn⟩ h0)).mpr ?_
    exact kept_B _ ⟨(ih _).1, (ih _).2.1, (ih _).2.2⟩ _

/-- The point's run finds those rows zero. -/
theorem point_padded (t : Fin cfg0.N) : (point m c t).Padded :=
  ⟨(zero_after m c _ _).1, (zero_after m c _ _).2.1, (zero_after m c _ _).2.2⟩

/-- Every point leaves the two results of its image. -/
theorem outs_at (t : Fin cfg0.N) :
    (outsAt0 m c t.val t.isLt).1 = atPix (point m c t).cls ∧ (outsAt0 m c t.val t.isLt).2.1 = atPix (point m c t).size := by
  by_cases h0 : t.val % 8 = 0
  · rw [outsAt_A m c t h0]
    exact results_A _ _
  · rw [outsAt_B m c t h0]
    exact results_B _ (point_padded m c t) _

end Cert.KernelIdeal.Value

end
-- ==== Proof.Entry.lean ====
module
public import proofs.«01_k».proof.Proof.Points
public import Idealize.ShloMosaic.Lib.Pipeline.ValueKit
public import Idealize.ShloMosaic.Lib.Claim

@[expose] public section

set_option maxRecDepth 16384

noncomputable section

/-! # What the kernel's operands hold

The operands are the arguments moved: images with the channels last, weights with their taps stacked into rows, and
biases. Each is read here at an index as an argument at an index. -/

namespace Cert.KernelIdeal.Value

open Cert.KernelIdeal Cert.KernelIdeal.Gen Idealize.ShloMosaic Idealize.ShloMosaic.TcCoe Idealize.SL.Sem Cert.Spec

/-- A load of a whole matrix is the matrix. -/
theorem whole_load {N C : ℕ} {κ : Kind} {sp : Space} {e : EltTy} (g : Memref sig κ sp ⟨2, ![N, C]⟩ e) (h : g.IsWhole) (x : Vec Ideal ⟨2, ![N, C]⟩ e) (inb : _) :
    View.readAt (Elt Ideal) g.view (Rect.unit (s := ⟨2, ![N, C]⟩) ![0, 0] (Shape.size ⟨2, ![N, C]⟩) inb).toLoadRect (h.unread x) = x := by
  funext y
  rw [View.readAt_eq_ld, h.read_unread, View.ld_unit_zero (S := ⟨2, ![N, C]⟩) (funext fun a => by fin_cases a <;> rfl)]

variable (m : (ℓ : Loc nD τ sig) → Buf (Elt Ideal) ℓ) (c : Dev nD) (t : Fin cfg0.N)

/-- Which block every window is at: the operands whole, the results' blocks one image each. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![t.val, 0, 0] ∧ win0_11.index t = ![t.val, 0, 0] :=
  (by decide +kernel : ∀ t : Fin grid0.N, _)

/-- Which image every point copies. -/
theorem off_at : ∀ t : Fin cfg0.N, k0_off1 (grid0.coords t) = ![t.val, 0, 0] :=
  (by decide +kernel : ∀ t : Fin grid0.N, _)

/-- The kernel's `w1`, loaded, is the operand `main_v9`. -/
theorem w1_at (k : Fin 576) (o : Fin 192) : (point m c t).w1 (ix2 k o) = (V m c main_v9 : Vec Ideal S576x192 .bf16) (ix2 k o) := by
  refine (congrFun (whole_load (point m c t).arg2 (point m c t).harg2 (point m c t).x0 inb_S576x192_S576x192_0_0) (ix2 k o)).trans ?_
  show (iblk m c 0 t : Vec Ideal S576x192 .bf16) (ix2 k o) = _
  blk_ext [iblk, idx t]

/-- The kernel's `b1`, loaded, is the operand `main_v11`. -/
theorem b1_at (k : Fin 1) (o : Fin 192) : (point m c t).b1 (ix2 k o) = (V m c main_v11 : Vec Ideal S1x192 .f32) (ix2 k o) := by
  refine (congrFun (whole_load (point m c t).arg3 (point m c t).harg3 (point m c t).x1 inb_S1x192_S1x192_0_0) (ix2 k o)).trans ?_
  show (iblk m c 1 t : Vec Ideal S1x192 .f32) (ix2 k o) = _
  blk_ext [iblk, idx t]

/-- The kernel's `w2`, loaded, is the operand `main_v14`. -/
theorem w2_at (k : Fin 1152) (o : Fin 128) : (point m c t).w2 (ix2 k o) = (V m c main_v14 : Vec Ideal S1152x128 .bf16) (ix2 k o) := by
  refine (congrFun (whole_load (point m c t).arg4 (point m c t).harg4 (point m c t).x2 inb_S1152x128_S1152x128_0_0) (ix2 k o)).trans ?_
  show (iblk m c 2 t : Vec Ideal S1152x128 .bf16) (ix2 k o) = _
  blk_ext [iblk, idx t]

/-- The kernel's `b2`, loaded, is the operand `main_v25`. -/
theorem b2_at (k : Fin 1) (o : Fin 128) : (point m c t).b2 (ix2 k o) = (V m c main_v25 : Vec Ideal S1x128 .f32) (ix2 k o) := by
  refine (congrFun (whole_load (point m c t).arg5 (point m c t).harg5 (point m c t).x3 inb_S1x128_S1x128_0_0) (ix2 k o)).trans ?_
  show (iblk m c 3 t : Vec Ideal S1x128 .f32) (ix2 k o) = _
  blk_ext [iblk, idx t]

/-- The kernel's `w3`, loaded, is the operand `main_v20`. -/
theorem w3_at (k : Fin 128) (o : Fin 80) : (point m c t).w3 (ix2 k o) = (V m c main_v20 : Vec Ideal S128x80 .bf16) (ix2 k o) := by
  refine (congrFun (whole_load (point m c t).arg6 (point m c t).harg6 (point m c t).x4 inb_S128x80_S128x80_0_0) (ix2 k o)).trans ?_
  show (iblk m c 4 t : Vec Ideal S128x80 .bf16) (ix2 k o) = _
  blk_ext [iblk, idx t]

/-- The kernel's `b3`, loaded, is the operand `main_v26`. -/
theorem b3_at (k : Fin 1) (o : Fin 80) : (point m c t).b3 (ix2 k o) = (V m c main_v26 : Vec Ideal S1x80 .f32) (ix2 k o) := by
  refine (congrFun (whole_load (point m c t).arg7 (point m c t).harg7 (point m c t).x5 inb_S1x80_S1x80_0_0) (ix2 k o)).trans ?_
  show (iblk m c 5 t : Vec Ideal S1x80 .f32) (ix2 k o) = _
  blk_ext [iblk, idx t]

/-- The kernel's `w4`, loaded, is the operand `main_v17`. -/
theorem w4_at (k : Fin 576) (o : Fin 64) : (point m c t).w4 (ix2 k o) = (V m c main_v17 : Vec Ideal S576x64 .bf16) (ix2 k o) := by
  refine (congrFun (whole_load (point m c t).arg8 (point m c t).harg8 (point m c t).x6 inb_S576x64_S576x64_0_0) (ix2 k o)).trans ?_
  show (iblk m c 6 t : Vec Ideal S576x64 .bf16) (ix2 k o) = _
  blk_ext [iblk, idx t]

/-- The kernel's `b4`, loaded, is the operand `main_v27`. -/
theorem b4_at (k : Fin 1) (o : Fin 64) : (point m c t).b4 (ix2 k o) = (V m c main_v27 : Vec Ideal S1x64 .f32) (ix2 k o) := by
  refine (congrFun (whole_load (point m c t).arg9 (point m c t).harg9 (point m c t).x7 inb_S1x64_S1x64_0_0) (ix2 k o)).trans ?_
  show (iblk m c 7 t : Vec Ideal S1x64 .f32) (ix2 k o) = _
  blk_ext [iblk, idx t]

/-- The kernel's `w5`, loaded, is the operand `main_v24`. -/
theorem w5_at (k : Fin 64) (o : Fin 8) : (point m c t).w5 (ix2 k o) = (V m c main_v24 : Vec Ideal S64x8 .bf16) (ix2 k o) := by
  refine (congrFun (whole_load (point m c t).arg10 (point m c t).harg10 (point m c t).x8 inb_S64x8_S64x8_0_0) (ix2 k o)).trans ?_
  show (iblk m c 8 t : Vec Ideal S64x8 .bf16) (ix2 k o) = _
  blk_ext [iblk, idx t]

/-- The kernel's `b5`, loaded, is the operand `main_v29`. -/
theorem b5_at (k : Fin 1) (o : Fin 8) : (point m c t).b5 (ix2 k o) = (V m c main_v29 : Vec Ideal S1x8 .f32) (ix2 k o) := by
  refine (congrFun (whole_load (point m c t).arg11 (point m c t).harg11 (point m c t).x9 inb_S1x8_S1x8_0_0) (ix2 k o)).trans ?_
  show (iblk m c 9 t : Vec Ideal S1x8 .f32) (ix2 k o) = _
  blk_ext [iblk, idx t]

/-- The first layers' weights, the class branch's columns. -/
theorem v9h_at (ch : Fin 64) (i j : Fin 3) (o : Fin 128) (h : 64 * (3 * j.val + i.val) + ch.val < 576) :
    (V m c main_v9 : Vec Ideal S576x192 .bf16) (ix2 ⟨64 * (3 * j.val + i.val) + ch.val, h⟩ ⟨o, by omega⟩) = (m ((c : Thread nD τ).loc main_arg1) : Vec Ideal S128x64x3x3 .f32) (ix4 o ch i j) := by
  unfold V
  simp only [hostOps0, hostOps0_1, hostOps0_2, hostOps0_3, hostOps0_4, List.flatten_cons, List.flatten_nil, List.append_nil, List.cons_append, List.nil_append]
  after_results
  pointwise
  blk_ext

/-- The first layers' weights, the size branch's columns. -/
theorem v9g_at (ch : Fin 64) (i j : Fin 3) (o : Fin 64) (h : 64 * (3 * j.val + i.val) + ch.val < 576) :
    (V m c main_v9 : Vec Ideal S576x192 .bf16) (ix2 ⟨64 * (3 * j.val + i.val) + ch.val, h⟩ ⟨128 + o, by omega⟩) = (m ((c : Thread nD τ).loc main_arg7) : Vec Ideal S64x64x3x3 .f32) (ix4 o ch i j) := by
  unfold V
  simp only [hostOps0, hostOps0_1, hostOps0_2, hostOps0_3, hostOps0_4, List.flatten_cons, List.flatten_nil, List.append_nil, List.cons_append, List.nil_append]
  after_results
  pointwise
  blk_ext

/-- The first layers' biases, the class branch's. -/
theorem v11h_at (o : Fin 128) :
    (V m c main_v11 : Vec Ideal S1x192 .f32) (ix2 0 ⟨o, by omega⟩) = (m ((c : Thread nD τ).loc main_arg2) : Vec Ideal S128 .f32) (ix1 o) := by
  unfold V
  simp only [hostOps0, hostOps0_1, hostOps0_2, hostOps0_3, hostOps0_4, List.flatten_cons, List.flatten_nil, List.append_nil, List.cons_append, List.nil_append]
  after_results
  pointwise

/-- The first layers' biases, the size branch's. -/
theorem v11g_at (o : Fin 64) :
    (V m c main_v11 : Vec Ideal S1x192 .f32) (ix2 0 ⟨128 + o, by omega⟩) = (m ((c : Thread nD τ).loc main_arg8) : Vec Ideal S64 .f32) (ix1 o) := by
  unfold V
  simp only [hostOps0, hostOps0_1, hostOps0_2, hostOps0_3, hostOps0_4, List.flatten_cons, List.flatten_nil, List.append_nil, List.cons_append, List.nil_append]
  after_results
  pointwise

/-- The class branch's second layer's weights. -/
theorem v14_at (ch : Fin 128) (i j : Fin 3) (o : Fin 128) (h : 128 * (3 * j.val + i.val) + ch.val < 1152) :
    (V m c main_v14 : Vec Ideal S1152x128 .bf16) (ix2 ⟨128 * (3 * j.val + i.val) + ch.val, h⟩ o) = (m ((c : Thread nD τ).loc main_arg3) : Vec Ideal S128x128x3x3 .f32) (ix4 o ch i j) := by
  unfold V
  simp only [hostOps0, hostOps0_1, hostOps0_2, hostOps0_3, hostOps0_4, List.flatten_cons, List.flatten_nil, List.append_nil, List.cons_append, List.nil_append]
  after_results
  pointwise
  blk_ext

/-- Its biases. -/
theorem v25_at (o : Fin 128) :
    (V m c main_v25 : Vec Ideal S1x128 .f32) (ix2 0 o) = (m ((c : Thread nD τ).loc main_arg4) : Vec Ideal S128 .f32) (ix1 o) := by
  unfold V
  simp only [hostOps0, hostOps0_1, hostOps0_2, hostOps0_3, hostOps0_4, List.flatten_cons, List.flatten_nil, List.append_nil, List.cons_append, List.nil_append]
  after_results
  pointwise

/-- The class scores' weights. -/
theorem v20_at (ch : Fin 128) (o : Fin 80) :
    (V m c main_v20 : Vec Ideal S128x80 .bf16) (ix2 ch o) = (m ((c : Thread nD τ).loc main_arg5) : Vec Ideal S80x128x1x1 .f32) (ix4 o ch 0 0) := by
  unfold V
  simp only [hostOps0, hostOps0_1, hostOps0_2, hostOps0_3, hostOps0_4, List.flatten_cons, List.flatten_nil, List.append_nil, List.cons_append, List.nil_append]
  after_results
  pointwise
  blk_ext

/-- Their biases. -/
theorem v26_at (o : Fin 80) :
    (V m c main_v26 : Vec Ideal S1x80 .f32) (ix2 0 o) = (m ((c : Thread nD τ).loc main_arg6) : Vec Ideal S80 .f32) (ix1 o) := by
  unfold V
  simp only [hostOps0, hostOps0_1, hostOps0_2, hostOps0_3, hostOps0_4, List.flatten_cons, List.flatten_nil, List.append_nil, List.cons_append, List.nil_append]
  after_results
  pointwise

/-- The size branch's second layer's weights. -/
theorem v17_at (ch : Fin 64) (i j : Fin 3) (o : Fin 64) (h : 64 * (3 * j.val + i.val) + ch.val < 576) :
    (V m c main_v17 : Vec Ideal S576x64 .bf16) (ix2 ⟨64 * (3 * j.val + i.val) + ch.val, h⟩ o) = (m ((c : Thread nD τ).loc main_arg9) : Vec Ideal S64x64x3x3 .f32) (ix4 o ch i j) := by
  unfold V
  simp only [hostOps0, hostOps0_1, hostOps0_2, hostOps0_3, hostOps0_4, List.flatten_cons, List.flatten_nil, List.append_nil, List.cons_append, List.nil_append]
  after_results
  pointwise
  blk_ext

/-- Its biases. -/
theorem v27_at (o : Fin 64) :
    (V m c main_v27 : Vec Ideal S1x64 .f32) (ix2 0 o) = (m ((c : Thread nD τ).loc main_arg10) : Vec Ideal S64 .f32) (ix1 o) := by
  unfold V
  simp only [hostOps0, hostOps0_1, hostOps0_2, hostOps0_3, hostOps0_4, List.flatten_cons, List.flatten_nil, List.append_nil, List.cons_append, List.nil_append]
  after_results
  pointwise

/-- The sizes' weights, of the four kept columns. -/
theorem v24_at (ch : Fin 64) (o : Fin 4) :
    (V m c main_v24 : Vec Ideal S64x8 .bf16) (ix2 ch ⟨o, by omega⟩) = (m ((c : Thread nD τ).loc main_arg11) : Vec Ideal S4x64x1x1 .f32) (ix4 o ch 0 0) := by
  unfold V
  simp only [hostOps0, hostOps0_1, hostOps0_2, hostOps0_3, hostOps0_4, List.flatten_cons, List.flatten_nil, List.append_nil, List.cons_append, List.nil_append]
  after_results
  simp -implicitDefEqProofs only [StableHlo.TRef.toBuf, StableHlo.TRef.ofBuf, cast_cast, cast_eq]
  pointwise
  blk_ext

/-- Their biases. -/
theorem v29_at (o : Fin 4) :
    (V m c main_v29 : Vec Ideal S1x8 .f32) (ix2 0 ⟨o, by omega⟩) = (m ((c : Thread nD τ).loc main_arg12) : Vec Ideal S4 .f32) (ix1 o) := by
  unfold V
  simp only [hostOps0, hostOps0_1, hostOps0_2, hostOps0_3, hostOps0_4, List.flatten_cons, List.flatten_nil, List.append_nil, List.cons_append, List.nil_append]
  after_results
  simp -implicitDefEqProofs only [StableHlo.TRef.toBuf, StableHlo.TRef.ofBuf, cast_cast, cast_eq]
  pointwise

/-- The images with the channels last. -/
theorem v2_at (b : Fin 8) (h w : Fin 128) (ch : Fin 64) :
    (V m c main_v2 : Vec Ideal S8x16384x64 .bf16) (ix3 b ⟨128 * h.val + w.val, by omega⟩ ch) = (m ((c : Thread nD τ).loc main_arg0) : Vec Ideal S8x64x128x128 .f32) (ix4 b ch h w) := by
  unfold V
  simp only [hostOps0, hostOps0_1, hostOps0_2, hostOps0_3, hostOps0_4, List.flatten_cons, List.flatten_nil, List.append_nil, List.cons_append, List.nil_append]
  after_results
  pointwise
  blk_ext

/-- One image's rows without the leading axis of one. -/
theorem flat_at (Y : Vec Ideal S1x16384x64 .bf16) (hc : S1x16384x64.ShapeCasts S16384x64) (p : Fin 16384) (ch : Fin 64) :
    shapeCast S16384x64 Y hc (ix2 p ch) = Y (ix3 0 p ch) := by
  pointwise

/-- The rows of one image, copied out of the array of images. -/
theorem copied (off : Fin 3 → ℕ) (b : Fin 8) (hb : off = ![b.val, 0, 0]) (inb : _) (hr : _)
    (X : Vec Ideal S8x16384x64 .bf16) (p : Fin 16384) (ch : Fin 64) :
    (((Memref.whole main_v2).slice (Rect.unit (s := S8x16384x64) off S1x16384x64.size inb) hr).squeeze S16384x64 squeezes_S1x16384x64_S16384x64).view.read (Elt Ideal) X (ix2 p ch)
      = X (ix3 b p ch) := by
  subst hb
  have hc : S1x16384x64.ShapeCasts S16384x64 := by decide
  refine (congrFun (Memref.read_squeeze_slice (Memref.whole main_v2) _ _ _ hc X) _).trans ?_
  generalize hY : View.readAt (Elt Ideal) (Memref.whole main_v2).view (Rect.unit (s := S8x16384x64) ![b.val, 0, 0] S1x16384x64.size inb).toLoadRect X = Y
  refine (flat_at Y hc p ch).trans ?_
  rw [← hY]
  show X _ = X _
  refine congrArg X (funext fun a => Fin.ext ?_)
  match a with
  | ⟨0, _⟩ => show b.val + 1 * 0 = b.val; omega
  | ⟨1, _⟩ => show 0 + 1 * p.val = p.val; omega
  | ⟨2, _⟩ => show 0 + 1 * ch.val = ch.val; omega

/-- The image a point works on. -/
theorem img_at (ch : Fin 64) (h w : Fin 128) : (point m c t).img ch h w = (m ((c : Thread nD τ).loc main_arg0) : Vec Ideal S8x64x128x128 .f32) (ix4 (⟨t.val, t.isLt⟩ : Fin 8) ch h w) := by
  refine Eq.trans ?_ (v2_at m c ⟨t.val, t.isLt⟩ h w ch)
  unfold Args.img point
  dsimp only
  unfold kernelRun0_A.sl.dma0
  exact copied _ ⟨t.val, t.isLt⟩ (off_at t) _ _ _ _ _

end Cert.KernelIdeal.Value

end
-- ==== Proof.RefRead.lean ====
module
public import proofs.«01_k».proof.Proof.Gen.ReferenceIdeal.Run
public import proofs.«01_k».proof.Proof.Spec
@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.Spec

/-- A signed whole zero read as a number is zero. -/
theorem zero_of_int : FloatOps.sitofp (F := Ideal) FTy.f32 (0#32) = 0 := by
  show (((0#32 : BitVec 32).toInt : ℝ) : EReal) = 0
  simp

/-- The border's condition as the padding states it, and as the plain mathematics does. -/
theorem within (i j : Fin 130) :
    ((1 ≤ i.val ∧ i.val - 1 < 128) ∧ 1 ≤ j.val ∧ j.val - 1 < 128) ↔ (1 ≤ i.val ∧ i.val < 129 ∧ 1 ≤ j.val ∧ j.val < 129) := by
  omega

/-- An array of 64 channels padded by one zero on each side is its bordered image, channel by channel. -/
theorem pad64_at (x : Vec Ideal S8x64x128x128 .f32) (b : Fin 8) (c : Fin 64) (i j : Fin 130) :
    pad S8x64x130x130 ![0, 0, 1, 1] ![0, 0, 1, 1] ![0, 0, 0, 0] x (sitofp (F := Ideal) .f32 (constantI S_ 32 0#32)) pads_S8x64x128x128_S8x64x130x130_000_000_110_110 h_S_ (ix4 b c i j) = bordered (fun i j => x (ix4 b c i j)) i j := by
  pointwise [bordered]
  simp only [within, zero_of_int]

/-- An array of 128 channels padded by one zero on each side is its bordered image, channel by channel. -/
theorem pad128_at (x : Vec Ideal S8x128x128x128 .f32) (b : Fin 8) (c : Fin 128) (i j : Fin 130) :
    pad S8x128x130x130 ![0, 0, 1, 1] ![0, 0, 1, 1] ![0, 0, 0, 0] x (sitofp (F := Ideal) .f32 (constantI S_ 32 0#32)) pads_S8x128x128x128_S8x128x130x130_000_000_110_110 h_S_ (ix4 b c i j) = bordered (fun i j => x (ix4 b c i j)) i j := by
  pointwise [bordered]
  simp only [within, zero_of_int]

/-- One tap of a 3×3 layer from 64 to 128 channels: the products summed over the channels. -/
theorem tap64_128 (i j : Nat) (xp : Vec Ideal S8x64x130x130 .f32) (wt : Vec Ideal S128x64x3x3 .f32)
    (hs : _) (hw : _) (b : Fin 8) (o : Fin 128) (h w : Fin 128) (hi : i < 3) (hj : j < 3) :
    transpose S8x128x128x128 [0, 3, 1, 2] (Host.dotGeneral (F := Ideal) (φ₁ := .f32) (φ₂ := .f32) dot_S8x64x128x128_S128x64_S8x128x128x128_1_1_023_0_n_n none
      (extractStridedSlice S8x64x128x128 ![0, 0, i, j] xp hs)
      (shapeCast _ (extractStridedSlice S128x64x1x1 ![0, 0, i, j] wt hw) shapeCasts_S128x64x1x1_S128x64))
      transposes_S8x128x128x128_S8x128x128x128_0_3_1_2 (ix4 b o h w)
    = ∑ c : Fin 64, xp (ix4 b c ⟨i + h, by omega⟩ ⟨j + w, by omega⟩) * wt (ix4 o c ⟨i, hi⟩ ⟨j, hj⟩) := by
  pointwise

/-- One tap of a 3×3 layer from 128 to 128 channels: the products summed over the channels. -/
theorem tap128_128 (i j : Nat) (xp : Vec Ideal S8x128x130x130 .f32) (wt : Vec Ideal S128x128x3x3 .f32)
    (hs : _) (hw : _) (b : Fin 8) (o : Fin 128) (h w : Fin 128) (hi : i < 3) (hj : j < 3) :
    transpose S8x128x128x128 [0, 3, 1, 2] (Host.dotGeneral (F := Ideal) (φ₁ := .f32) (φ₂ := .f32) dot_S8x128x128x128_S128x128_S8x128x128x128_1_1_023_0_n_n none
      (extractStridedSlice S8x128x128x128 ![0, 0, i, j] xp hs)
      (shapeCast _ (extractStridedSlice S128x128x1x1 ![0, 0, i, j] wt hw) shapeCasts_S128x128x1x1_S128x128))
      transposes_S8x128x128x128_S8x128x128x128_0_3_1_2 (ix4 b o h w)
    = ∑ c : Fin 128, xp (ix4 b c ⟨i + h, by omega⟩ ⟨j + w, by omega⟩) * wt (ix4 o c ⟨i, hi⟩ ⟨j, hj⟩) := by
  pointwise

/-- One tap of a 3×3 layer from 64 to 64 channels: the products summed over the channels. -/
theorem tap64_64 (i j : Nat) (xp : Vec Ideal S8x64x130x130 .f32) (wt : Vec Ideal S64x64x3x3 .f32)
    (hs : _) (hw : _) (b : Fin 8) (o : Fin 64) (h w : Fin 128) (hi : i < 3) (hj : j < 3) :
    transpose S8x64x128x128 [0, 3, 1, 2] (Host.dotGeneral (F := Ideal) (φ₁ := .f32) (φ₂ := .f32) dot_S8x64x128x128_S64x64_S8x128x128x64_1_1_023_0_n_n none
      (extractStridedSlice S8x64x128x128 ![0, 0, i, j] xp hs)
      (shapeCast _ (extractStridedSlice S64x64x1x1 ![0, 0, i, j] wt hw) shapeCasts_S64x64x1x1_S64x64))
      transposes_S8x128x128x64_S8x64x128x128_0_3_1_2 (ix4 b o h w)
    = ∑ c : Fin 64, xp (ix4 b c ⟨i + h, by omega⟩ ⟨j + w, by omega⟩) * wt (ix4 o c ⟨i, hi⟩ ⟨j, hj⟩) := by
  pointwise

variable (V0 : Valuation τ sig (Elt Ideal))

/-- The input image. -/
def inp (b : Fin 8) : Fin 64 → Fin 128 → Fin 128 → EReal := fun c i j => V0 (Proc.devRef .tc main_arg0) (ix4 b c i j)

/-- A bias spread over the pixels. -/
theorem bias128_at (x : Vec Ideal S128 .f32) (b : Fin 8) (o : Fin 128) (h w : Fin 128) :
    broadcastInDim S8x128x128x128 ![0, 1, 2, 3] bcast_S1x128x1x1_S8x128x128x128_0_1_2_3 (broadcastInDim S1x128x1x1 ![1] bcast_S128_S1x128x1x1_1 x) (ix4 b o h w) = x (ix1 o) := by
  pointwise

/-- A bias spread over the pixels. -/
theorem bias64_at (x : Vec Ideal S64 .f32) (b : Fin 8) (o : Fin 64) (h w : Fin 128) :
    broadcastInDim S8x64x128x128 ![0, 1, 2, 3] bcast_S1x64x1x1_S8x64x128x128_0_1_2_3 (broadcastInDim S1x64x1x1 ![1] bcast_S64_S1x64x1x1_1 x) (ix4 b o h w) = x (ix1 o) := by
  pointwise

/-- The image, bordered, of the class branch. -/
theorem v0_at (b : Fin 8) (c : Fin 64) (i j : Fin 130) :
    res_main_v0 V0 (ix4 b c i j) = bordered (inp V0 b c) i j := pad64_at _ b c i j

/-- The image, bordered, of the size branch. -/
theorem v124_at (b : Fin 8) (c : Fin 64) (i j : Fin 130) :
    res_main_v124 V0 (ix4 b c i j) = bordered (inp V0 b c) i j := pad64_at _ b c i j

/-- The nine taps of `main_v53` add up to the convolution. -/
theorem v53_at (b : Fin 8) (o : Fin 128) (h w : Fin 128) :
    res_main_v53 V0 (ix4 b o h w) = conv (inp V0 b) (fun c i j => V0 (Proc.devRef .tc main_arg1) (ix4 o c i j)) h w := by
  unfold res_main_v53 addf
  simp only [conv, Fin.sum_univ_three, Ideal.addf_def]
  rw [tap64_128 0 0 _ _ _ _ b o h w (by decide) (by decide), tap64_128 0 1 _ _ _ _ b o h w (by decide) (by decide), tap64_128 0 2 _ _ _ _ b o h w (by decide) (by decide), tap64_128 1 0 _ _ _ _ b o h w (by decide) (by decide), tap64_128 1 1 _ _ _ _ b o h w (by decide) (by decide), tap64_128 1 2 _ _ _ _ b o h w (by decide) (by decide), tap64_128 2 0 _ _ _ _ b o h w (by decide) (by decide), tap64_128 2 1 _ _ _ _ b o h w (by decide) (by decide), tap64_128 2 2 _ _ _ _ b o h w (by decide) (by decide)]

  simp only [v0_at, add_assoc]
  rfl

/-- The nine taps of `main_v180` add up to the convolution and its bias. -/
theorem v180_at (b : Fin 8) (o : Fin 64) (h w : Fin 128) :
    res_main_v180 V0 (ix4 b o h w) = conv (inp V0 b) (fun c i j => V0 (Proc.devRef .tc main_arg7) (ix4 o c i j)) h w + V0 (Proc.devRef .tc main_arg8) (ix1 o) := by
  unfold res_main_v180 addf
  simp only [conv, Fin.sum_univ_three, Ideal.addf_def]
  rw [tap64_64 0 0 _ _ _ _ b o h w (by decide) (by decide), tap64_64 0 1 _ _ _ _ b o h w (by decide) (by decide), tap64_64 0 2 _ _ _ _ b o h w (by decide) (by decide), tap64_64 1 0 _ _ _ _ b o h w (by decide) (by decide), tap64_64 1 1 _ _ _ _ b o h w (by decide) (by decide), tap64_64 1 2 _ _ _ _ b o h w (by decide) (by decide), tap64_64 2 0 _ _ _ _ b o h w (by decide) (by decide), tap64_64 2 1 _ _ _ _ b o h w (by decide) (by decide), tap64_64 2 2 _ _ _ _ b o h w (by decide) (by decide)]
  rw [bias64_at]
  simp only [v124_at, add_assoc]
  rfl

/-- The class branch's hidden image. -/
def clsHidden (b : Fin 8) : Fin 128 → Fin 128 → Fin 128 → EReal :=
  layer (inp V0 b) (fun o c i j => V0 (Proc.devRef .tc main_arg1) (ix4 o c i j)) (fun o => V0 (Proc.devRef .tc main_arg2) (ix1 o))

/-- The size branch's hidden image. -/
def sizeHidden (b : Fin 8) : Fin 64 → Fin 128 → Fin 128 → EReal :=
  layer (inp V0 b) (fun o c i j => V0 (Proc.devRef .tc main_arg7) (ix4 o c i j)) (fun o => V0 (Proc.devRef .tc main_arg8) (ix1 o))

/-- The class branch's hidden image, bordered. -/
theorem v59_at (b : Fin 8) (c : Fin 128) (i j : Fin 130) :
    res_main_v59 V0 (ix4 b c i j) = bordered (clsHidden V0 b c) i j := by
  refine (pad128_at _ b c i j).trans ?_
  congr 1
  funext i j
  simp only [clsHidden, layer, ← v53_at]
  pointwise

/-- The size branch's hidden image, bordered. -/
theorem v183_at (b : Fin 8) (c : Fin 64) (i j : Fin 130) :
    res_main_v183 V0 (ix4 b c i j) = bordered (sizeHidden V0 b c) i j := by
  refine (pad64_at _ b c i j).trans ?_
  congr 1
  funext i j
  simp only [sizeHidden, layer]
  pointwise
  rw [v180_at]

/-- The nine taps of `main_v112` add up to the convolution. -/
theorem v112_at (b : Fin 8) (o : Fin 128) (h w : Fin 128) :
    res_main_v112 V0 (ix4 b o h w) = conv (clsHidden V0 b) (fun c i j => V0 (Proc.devRef .tc main_arg3) (ix4 o c i j)) h w := by
  unfold res_main_v112 addf
  simp only [conv, Fin.sum_univ_three, Ideal.addf_def]
  rw [tap128_128 0 0 _ _ _ _ b o h w (by decide) (by decide), tap128_128 0 1 _ _ _ _ b o h w (by decide) (by decide), tap128_128 0 2 _ _ _ _ b o h w (by decide) (by decide), tap128_128 1 0 _ _ _ _ b o h w (by decide) (by decide), tap128_128 1 1 _ _ _ _ b o h w (by decide) (by decide), tap128_128 1 2 _ _ _ _ b o h w (by decide) (by decide), tap128_128 2 0 _ _ _ _ b o h w (by decide) (by decide), tap128_128 2 1 _ _ _ _ b o h w (by decide) (by decide), tap128_128 2 2 _ _ _ _ b o h w (by decide) (by decide)]

  simp only [v59_at, add_assoc]
  rfl

/-- The nine taps of `main_v239` add up to the convolution and its bias. -/
theorem v239_at (b : Fin 8) (o : Fin 64) (h w : Fin 128) :
    res_main_v239 V0 (ix4 b o h w) = conv (sizeHidden V0 b) (fun c i j => V0 (Proc.devRef .tc main_arg9) (ix4 o c i j)) h w + V0 (Proc.devRef .tc main_arg10) (ix1 o) := by
  unfold res_main_v239 addf
  simp only [conv, Fin.sum_univ_three, Ideal.addf_def]
  rw [tap64_64 0 0 _ _ _ _ b o h w (by decide) (by decide), tap64_64 0 1 _ _ _ _ b o h w (by decide) (by decide), tap64_64 0 2 _ _ _ _ b o h w (by decide) (by decide), tap64_64 1 0 _ _ _ _ b o h w (by decide) (by decide), tap64_64 1 1 _ _ _ _ b o h w (by decide) (by decide), tap64_64 1 2 _ _ _ _ b o h w (by decide) (by decide), tap64_64 2 0 _ _ _ _ b o h w (by decide) (by decide), tap64_64 2 1 _ _ _ _ b o h w (by decide) (by decide), tap64_64 2 2 _ _ _ _ b o h w (by decide) (by decide)]
  rw [bias64_at]
  simp only [v183_at, add_assoc]
  rfl

/-- The class scores, as the reference's last operations write them. -/
def scores : Vec Ideal S8x80x16384 .f32 :=
  shapeCast S8x80x16384 (addf (transpose S8x80x128x128 [0, 3, 1, 2] (Host.dotGeneral (F := Ideal) (φ₁ := .f32) (φ₂ := .f32) dot_S8x128x128x128_S80x128_S8x128x128x80_1_1_023_0_n_n none (maximumf (addf (res_main_v112 V0) (broadcastInDim S8x128x128x128 ![0, 1, 2, 3] bcast_S1x128x1x1_S8x128x128x128_0_1_2_3 (broadcastInDim S1x128x1x1 ![1] bcast_S128_S1x128x1x1_1 (V0 (Proc.devRef .tc main_arg4))))) (broadcastInDim S8x128x128x128 ![] bcast_S_S8x128x128x128 (constant (F := Ideal) S_ .f32 0x00000000#32))) (shapeCast _ (V0 (Proc.devRef .tc main_arg5)) shapeCasts_S80x128x1x1_S80x128)) transposes_S8x128x128x80_S8x80x128x128_0_3_1_2) (broadcastInDim S8x80x128x128 ![0, 1, 2, 3] bcast_S1x80x1x1_S8x80x128x128_0_1_2_3 (broadcastInDim S1x80x1x1 ![1] bcast_S80_S1x80x1x1_1 (V0 (Proc.devRef .tc main_arg6))))) shapeCasts_S8x80x128x128_S8x80x16384

/-- The sizes, as the reference's last operations write them. -/
def sizes : Vec Ideal S8x4x16384 .f32 :=
  shapeCast S8x4x16384 (mulf (maximumf (addf (transpose S8x4x128x128 [0, 3, 1, 2] (Host.dotGeneral (F := Ideal) (φ₁ := .f32) (φ₂ := .f32) dot_S8x64x128x128_S4x64_S8x128x128x4_1_1_023_0_n_n none (maximumf (res_main_v239 V0) (broadcastInDim S8x64x128x128 ![] bcast_S_S8x64x128x128 (constant (F := Ideal) S_ .f32 0x00000000#32))) (shapeCast _ (V0 (Proc.devRef .tc main_arg11)) shapeCasts_S4x64x1x1_S4x64)) transposes_S8x128x128x4_S8x4x128x128_0_3_1_2) (broadcastInDim S8x4x128x128 ![0, 1, 2, 3] bcast_S1x4x1x1_S8x4x128x128_0_1_2_3 (broadcastInDim S1x4x1x1 ![1] bcast_S4_S1x4x1x1_1 (V0 (Proc.devRef .tc main_arg12))))) (broadcastInDim S8x4x128x128 ![] bcast_S_S8x4x128x128 (constant (F := Ideal) S_ .f32 0x00000000#32))) (broadcastInDim S8x4x128x128 ![] bcast_S_S8x4x128x128 (constant (F := Ideal) S_ .f32 0x41800000#32))) shapeCasts_S8x4x128x128_S8x4x16384

/-- The class scores at a pixel. -/
theorem scores_at (b : Fin 8) (o : Fin 80) (h w : Fin 128) :
    scores V0 (ix3 b o ⟨128 * h + w, by omega⟩)
      = mix (layer (clsHidden V0 b) (fun o c i j => V0 (Proc.devRef .tc main_arg3) (ix4 o c i j)) (fun o => V0 (Proc.devRef .tc main_arg4) (ix1 o)))
        (fun o c => V0 (Proc.devRef .tc main_arg5) (ix4 o c 0 0)) (fun o => V0 (Proc.devRef .tc main_arg6) (ix1 o)) o h w := by
  simp only [mix, layer, ← v112_at]
  pointwise [scores]

/-- The sizes at a pixel. -/
theorem sizes_at (b : Fin 8) (o : Fin 4) (h w : Fin 128) :
    sizes V0 (ix3 b o ⟨128 * h + w, by omega⟩)
      = max (mix (layer (sizeHidden V0 b) (fun o c i j => V0 (Proc.devRef .tc main_arg9) (ix4 o c i j)) (fun o => V0 (Proc.devRef .tc main_arg10) (ix1 o)))
        (fun o c => V0 (Proc.devRef .tc main_arg11) (ix4 o c 0 0)) (fun o => V0 (Proc.devRef .tc main_arg12) (ix1 o)) o h w) 0
          * Ideal.ofBits .f32 1098907648#32 := by
  simp only [mix, layer]
  pointwise [sizes]
  simp only [v239_at]

end Cert.ReferenceIdeal.Value
end
-- ==== Proof.Equation.lean ====
module
public import proofs.«01_k».proof.Proof.Entry
public import proofs.«01_k».proof.Proof.RefRead

@[expose] public section

set_option maxRecDepth 16384

noncomputable section

/-! # The kernel's results are the reference's

With the same arguments, each point's image, hidden images and results are the reference's; the points' blocks make up
the whole arrays. -/

namespace Cert.KernelIdeal.Value

open Cert.KernelIdeal Cert.KernelIdeal.Gen Idealize.ShloMosaic Idealize.ShloMosaic.TcCoe Idealize.SL.Sem Cert.Spec
open Cert.ReferenceIdeal.Value (inp clsHidden sizeHidden scores sizes scores_at sizes_at)

variable (m : (ℓ : Loc nD τ sig) → Buf (Elt Ideal) ℓ) (c : Dev nD)
  (R : Valuation Cert.ReferenceIdeal.τ Cert.ReferenceIdeal.sig (Elt Ideal))

/-- The reference was given the kernel's arguments. -/
structure SameArgs : Prop where
  arg0 : (R (Proc.devRef .tc Cert.ReferenceIdeal.main_arg0) : Vec Ideal S8x64x128x128 .f32) = (m ((c : Thread nD τ).loc main_arg0) : Vec Ideal S8x64x128x128 .f32)
  arg1 : (R (Proc.devRef .tc Cert.ReferenceIdeal.main_arg1) : Vec Ideal S128x64x3x3 .f32) = (m ((c : Thread nD τ).loc main_arg1) : Vec Ideal S128x64x3x3 .f32)
  arg2 : (R (Proc.devRef .tc Cert.ReferenceIdeal.main_arg2) : Vec Ideal S128 .f32) = (m ((c : Thread nD τ).loc main_arg2) : Vec Ideal S128 .f32)
  arg3 : (R (Proc.devRef .tc Cert.ReferenceIdeal.main_arg3) : Vec Ideal S128x128x3x3 .f32) = (m ((c : Thread nD τ).loc main_arg3) : Vec Ideal S128x128x3x3 .f32)
  arg4 : (R (Proc.devRef .tc Cert.ReferenceIdeal.main_arg4) : Vec Ideal S128 .f32) = (m ((c : Thread nD τ).loc main_arg4) : Vec Ideal S128 .f32)
  arg5 : (R (Proc.devRef .tc Cert.ReferenceIdeal.main_arg5) : Vec Ideal S80x128x1x1 .f32) = (m ((c : Thread nD τ).loc main_arg5) : Vec Ideal S80x128x1x1 .f32)
  arg6 : (R (Proc.devRef .tc Cert.ReferenceIdeal.main_arg6) : Vec Ideal S80 .f32) = (m ((c : Thread nD τ).loc main_arg6) : Vec Ideal S80 .f32)
  arg7 : (R (Proc.devRef .tc Cert.ReferenceIdeal.main_arg7) : Vec Ideal S64x64x3x3 .f32) = (m ((c : Thread nD τ).loc main_arg7) : Vec Ideal S64x64x3x3 .f32)
  arg8 : (R (Proc.devRef .tc Cert.ReferenceIdeal.main_arg8) : Vec Ideal S64 .f32) = (m ((c : Thread nD τ).loc main_arg8) : Vec Ideal S64 .f32)
  arg9 : (R (Proc.devRef .tc Cert.ReferenceIdeal.main_arg9) : Vec Ideal S64x64x3x3 .f32) = (m ((c : Thread nD τ).loc main_arg9) : Vec Ideal S64x64x3x3 .f32)
  arg10 : (R (Proc.devRef .tc Cert.ReferenceIdeal.main_arg10) : Vec Ideal S64 .f32) = (m ((c : Thread nD τ).loc main_arg10) : Vec Ideal S64 .f32)
  arg11 : (R (Proc.devRef .tc Cert.ReferenceIdeal.main_arg11) : Vec Ideal S4x64x1x1 .f32) = (m ((c : Thread nD τ).loc main_arg11) : Vec Ideal S4x64x1x1 .f32)
  arg12 : (R (Proc.devRef .tc Cert.ReferenceIdeal.main_arg12) : Vec Ideal S4 .f32) = (m ((c : Thread nD τ).loc main_arg12) : Vec Ideal S4 .f32)

variable {m c R} (s : SameArgs m c R) (t : Fin cfg0.N)

include s

/-- A point's image is the reference's. -/
theorem same_img : (point m c t).img = inp R ⟨t.val, t.isLt⟩ := by
  funext ch h w
  exact (img_at m c t ch h w).trans (congrFun s.arg0 _).symm

/-- The class branch's first layer is the reference's. -/
theorem same_hid : (point m c t).hid = clsHidden R ⟨t.val, t.isLt⟩ := by
  unfold Args.hid firstH clsHidden
  rw [same_img s t]
  refine congr (congrArg (layer _) (funext fun o => funext fun ch => funext fun i => funext fun j => ?_)) (funext fun o => ?_)
  · exact (w1_at m c t _ _).trans ((v9h_at m c ch i j o _).trans (congrFun s.arg1 _).symm)
  · exact (b1_at m c t _ _).trans ((v11h_at m c o).trans (congrFun s.arg2 _).symm)

/-- The size branch's first layer is the reference's. -/
theorem same_gid : (point m c t).gid = sizeHidden R ⟨t.val, t.isLt⟩ := by
  unfold Args.gid firstG sizeHidden
  rw [same_img s t]
  refine congr (congrArg (layer _) (funext fun o => funext fun ch => funext fun i => funext fun j => ?_)) (funext fun o => ?_)
  · exact (w1_at m c t _ _).trans ((v9g_at m c ch i j o _).trans (congrFun s.arg7 _).symm)
  · exact (b1_at m c t _ _).trans ((v11g_at m c o).trans (congrFun s.arg8 _).symm)

/-- The class scores of a point's image are the reference's. -/
theorem same_cls (o : Fin 80) (h w : Fin 128) :
    (point m c t).cls o h w = scores R (ix3 (⟨t.val, t.isLt⟩ : Fin 8) o ⟨128 * h + w, by omega⟩) := by
  refine Eq.trans ?_ (scores_at R _ o h w).symm
  unfold Args.cls
  rw [same_hid s t]
  refine congrFun (congrFun (congrFun (congr (congr (congrArg mix (congr (congrArg (layer _) (funext fun o => funext fun ch => funext fun i => funext fun j => ?_)) (funext fun o => ?_))) (funext fun o => funext fun ch => ?_)) (funext fun o => ?_)) o) h) w
  · exact (w2_at m c t _ _).trans ((v14_at m c ch i j o _).trans (congrFun s.arg3 _).symm)
  · exact (b2_at m c t _ _).trans ((v25_at m c o).trans (congrFun s.arg4 _).symm)
  · exact (w3_at m c t _ _).trans ((v20_at m c ch o).trans (congrFun s.arg5 _).symm)
  · exact (b3_at m c t _ _).trans ((v26_at m c o).trans (congrFun s.arg6 _).symm)

/-- The sizes of a point's image are the reference's. -/
theorem same_size (o : Fin 4) (h w : Fin 128) :
    (point m c t).size o h w = sizes R (ix3 (⟨t.val, t.isLt⟩ : Fin 8) o ⟨128 * h + w, by omega⟩) := by
  refine Eq.trans ?_ (sizes_at R _ o h w).symm
  unfold Args.size
  rw [same_gid s t]
  refine congrArg (fun x => max x 0 * Ideal.ofBits .f32 1098907648#32) ?_
  refine congrFun (congrFun (congrFun (congr (congr (congrArg mix (congr (congrArg (layer _) (funext fun o => funext fun ch => funext fun i => funext fun j => ?_)) (funext fun o => ?_))) (funext fun o => funext fun ch => ?_)) (funext fun o => ?_)) o) h) w
  · exact (w4_at m c t _ _).trans ((v17_at m c ch i j o _).trans (congrFun s.arg9 _).symm)
  · exact (b4_at m c t _ _).trans ((v27_at m c o).trans (congrFun s.arg10 _).symm)
  · exact (w5_at m c t _ _).trans ((v24_at m c ch o).trans (congrFun s.arg11 _).symm)
  · exact (b5_at m c t _ _).trans ((v29_at m c o).trans (congrFun s.arg12 _).symm)

/-- A point's block of `scores`, at an index of the block. -/
theorem block_cls (y : S1x80x16384.Idx) (z : S8x80x16384.Idx) (h0 : (z 0).val = t.val) (h1 : (z 1).val = (y 1).val) (h2 : (z 2).val = (y 2).val) :
    atPix (point m c t).cls y = scores R z := by
  have hy : (y 2).val < 16384 := (y 2).isLt
  refine (same_cls s t _ _ _).trans (congrArg (scores R) (funext fun a => Fin.ext ?_))
  match a with
  | ⟨0, _⟩ => exact h0.symm
  | ⟨1, _⟩ => exact h1.symm
  | ⟨2, _⟩ =>
    show 128 * ((y 2).val / 128) + (y 2).val % 128 = (z 2).val
    omega

/-- The whole array of `scores`. -/
theorem final_cls : (dats m 0 c).arrAt 10 cfg0.N = scores R := by
  refine (dats m 0 c).arrAt_eq_of_covers 10 _ (by decide +kernel) fun t hf y => ?_
  blk_simp
  rw [after0_10, (outs_at m c t).1]
  refine block_cls s t y _ ?_ ?_ ?_
  all_goals blk_simp [idx t]

/-- A point's block of `sizes`, at an index of the block. -/
theorem block_size (y : S1x4x16384.Idx) (z : S8x4x16384.Idx) (h0 : (z 0).val = t.val) (h1 : (z 1).val = (y 1).val) (h2 : (z 2).val = (y 2).val) :
    atPix (point m c t).size y = sizes R z := by
  have hy : (y 2).val < 16384 := (y 2).isLt
  refine (same_size s t _ _ _).trans (congrArg (sizes R) (funext fun a => Fin.ext ?_))
  match a with
  | ⟨0, _⟩ => exact h0.symm
  | ⟨1, _⟩ => exact h1.symm
  | ⟨2, _⟩ =>
    show 128 * ((y 2).val / 128) + (y 2).val % 128 = (z 2).val
    omega

/-- The whole array of `sizes`. -/
theorem final_size : (dats m 0 c).arrAt 11 cfg0.N = sizes R := by
  refine (dats m 0 c).arrAt_eq_of_covers 11 _ (by decide +kernel) fun t hf y => ?_
  blk_simp
  rw [after0_11, (outs_at m c t).2]
  refine block_size s t y _ ?_ ?_ ?_
  all_goals blk_simp [idx t]

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel at the stored formats, from any memory: it ends, its thirteen arguments unchanged and every counter at zero. -/
theorem frame_kernel : Cert.quiescent_Kernel := fun m g _ => Cert.Kernel.Gen.frame m g

/-- The same of the kernel over the extended reals. -/
theorem frame_ideal : Cert.quiescent_KernelIdeal := fun m g _ => Cert.KernelIdeal.Gen.frame m g

/-- The same of the reference: its run leaves the arguments unchanged, and it declares no counter. -/
theorem frame_reference : Cert.quiescent_ReferenceIdeal := fun m g _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m g)

/-- The kernel and the reference, from memories that agree on the thirteen arguments, end with the same class scores and
    the same sizes: the kernel's two arrays are the reference's two terms (`final_cls`, `final_size`). -/
theorem algebraic : Cert.algebraic_KernelIdeal_ReferenceIdeal := by
  intro m g m' g' _ h
  have same : ∀ c, Cert.KernelIdeal.Value.SameArgs m c (StableHlo.launchContents m' c) := fun c => by
    obtain ⟨h0, h1, h2, h3, h4, h5, h6, h7, h8, h9, h10, h11, h12⟩ := h c
    exact ⟨h0, h1, h2, h3, h4, h5, h6, h7, h8, h9, h10, h11, h12⟩
  refine ⟨fun c => Cert.ReferenceIdeal.Value.scores (StableHlo.launchContents m' c),
    fun c => Cert.ReferenceIdeal.Value.sizes (StableHlo.launchContents m' c), ?_, Cert.ReferenceIdeal.Value.run (F := Ideal) m' g'⟩
  exact (θ_run Cert.KernelIdeal.defs _ _).mono
    (fun r hr c => ⟨(hr c).1.trans (Cert.KernelIdeal.Value.final_cls (same c)),
      (hr c).2.1.trans (Cert.KernelIdeal.Value.final_size (same c)), (hr c).2.2⟩)
    (Cert.KernelIdeal.Value.run_blocks (F := Ideal) m g)

/-- All five claims together. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
